-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite_sinks_below_inf [hPre_gains_finite_sinks_below_inf : Cert.Pre_gains_finite_sinks_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite_sinks_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite_sinks_below_inf [hPre_gains_finite_sinks_below_inf : Cert.Pre_gains_finite_sinks_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite_sinks_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gains_finite_sinks_below_inf [hKernelIdeal : Cert.KernelIdeal.Facts] [hPre_gains_finite_sinks_below_inf : Cert.Pre_gains_finite_sinks_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite_sinks_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gains_finite_sinks_below_inf [hReferenceIdeal : Cert.ReferenceIdeal.Facts] [hPre_gains_finite_sinks_below_inf : Cert.Pre_gains_finite_sinks_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite_sinks_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  True

def algebraic_KernelIdeal_ReferenceIdeal_pre_gains_finite_sinks_below_inf [hKernelIdeal : Cert.KernelIdeal.Facts] [hReferenceIdeal : Cert.ReferenceIdeal.Facts] [hPre_gains_finite_sinks_below_inf : Cert.Pre_gains_finite_sinks_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite_sinks_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v33_0)) (v1 : (c : Dev Cert.Kernel7Ideal.nD) → Buf (Elt Ideal) ((c.tc : Thread Cert.Kernel7Ideal.nD Cert.Kernel7Ideal.τ).loc Cert.Kernel7Ideal.main_v33_2)) (v2 : (c : Dev Cert.Kernel7Ideal.nD) → Buf (Elt Ideal) ((c.tc : Thread Cert.Kernel7Ideal.nD Cert.Kernel7Ideal.τ).loc Cert.Kernel7Ideal.main_v33_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v33_0) = v0 c
          ∧ r.2.mem ((c.tc : Thread Cert.Kernel7Ideal.nD Cert.Kernel7Ideal.τ).loc Cert.Kernel7Ideal.main_v33_2) = v1 c
          ∧ r.2.mem ((c.tc : Thread Cert.Kernel7Ideal.nD Cert.Kernel7Ideal.τ).loc Cert.Kernel7Ideal.main_v33_3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v80) = v0 c
          ∧ r.2.mem ((c.tc : Thread Cert.Reference7Ideal.nD Cert.Reference7Ideal.τ).loc Cert.Reference7Ideal.main_v82) = v1 c
          ∧ r.2.mem ((c.tc : Thread Cert.Reference7Ideal.nD Cert.Reference7Ideal.τ).loc Cert.Reference7Ideal.main_v84) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_gains_finite_sinks_below_inf : Cert.Pre_gains_finite_sinks_below_inf.Facts),
    quiescent_Kernel (hKernel := hKernel)
    ∧ quiescent_KernelIdeal (hKernelIdeal := hKernelIdeal)
    ∧ quiescent_KernelIdeal_pre_gains_finite_sinks_below_inf (hKernelIdeal := hKernelIdeal) (hPre_gains_finite_sinks_below_inf := hPre_gains_finite_sinks_below_inf)
    ∧ quiescent_ReferenceIdeal (hReferenceIdeal := hReferenceIdeal)
    ∧ quiescent_ReferenceIdeal_pre_gains_finite_sinks_below_inf (hReferenceIdeal := hReferenceIdeal) (hPre_gains_finite_sinks_below_inf := hPre_gains_finite_sinks_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_gains_finite_sinks_below_inf (hKernelIdeal := hKernelIdeal) (hReferenceIdeal := hReferenceIdeal) (hPre_gains_finite_sinks_below_inf := hPre_gains_finite_sinks_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_gains_finite_sinks_below_inf.lean ====
abbrev S8x2048x4112 : Shape := ⟨3, ![8, 2048, 4112]⟩
abbrev S64 : Shape := ⟨1, ![64]⟩
abbrev S16 : Shape := ⟨1, ![16]⟩
abbrev S144 : Shape := ⟨1, ![144]⟩
abbrev S_ : Shape := ⟨0, ![]⟩

class Facts : Prop where
  concatenates_S64_S64_S16_S144_d0 : Shape.Concatenates [S64, S64, S16] S144 0
  bcast_S_S144 : S_.BroadcastsInDim S144 (![] : Fin 0 → Fin S144.rank)

variable [Facts]

def fn {F : FTy → Type} [FloatOps F] (main_arg0 : FVec F S8x2048x4112 .f32) (main_arg1 : FVec F S64 .f32) (main_arg2 : FVec F S64 .f32) (main_arg3 : FVec F S16 .f32) : IVec S144 1 :=
  let main_v0 : FVec F S64 .f32 := Host.absf main_arg1
  let main_v1 : FVec F S64 .f32 := Host.absf main_arg2
  let main_v2 : FVec F S144 .f32 := concatenate S144 0 [⟨S64, main_v0⟩, ⟨S64, main_v1⟩, ⟨S16, main_arg3⟩] concatenates_S64_S64_S16_S144_d0
  let main_cst : FVec F S_ .f32 := constant S_ .f32 0x7F800000#32
  let main_v3 : FVec F S144 .f32 := broadcastInDim S144 ![] bcast_S_S144 main_cst
  let main_v4 : IVec S144 1 := cmpf .olt main_v2 main_v3
  main_v4
-- ==== Kernel.lean ====
abbrev S8x2048x4112 : Shape := ⟨3, ![8, 2048, 4112]⟩
abbrev S64 : Shape := ⟨1, ![64]⟩
abbrev S16 : Shape := ⟨1, ![16]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x4112 : Shape := ⟨2, ![16384, 4112]⟩
abbrev S16384x1024 : Shape := ⟨2, ![16384, 1024]⟩
abbrev S16384x256 : Shape := ⟨2, ![16384, 256]⟩
abbrev S16384x512 : Shape := ⟨2, ![16384, 512]⟩
abbrev S16384x4096 : Shape := ⟨2, ![16384, 4096]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S128x1024 : Shape := ⟨2, ![128, 1024]⟩
abbrev S128x256 : Shape := ⟨2, ![128, 256]⟩
abbrev S128x128 : Shape := ⟨2, ![128, 128]⟩
abbrev S4x128x128 : Shape := ⟨3, ![4, 128, 128]⟩
abbrev S512x256 : Shape := ⟨2, ![512, 256]⟩
abbrev S128x1 : Shape := ⟨2, ![128, 1]⟩
abbrev S1x128x128 : Shape := ⟨3, ![1, 128, 128]⟩
abbrev S256x128 : Shape := ⟨2, ![256, 128]⟩
abbrev S512x128 : Shape := ⟨2, ![512, 128]⟩
abbrev S1 : Shape := ⟨1, ![1]⟩
abbrev S512x1 : Shape := ⟨2, ![512, 1]⟩
abbrev S512 : Shape := ⟨1, ![512]⟩

abbrev nBuf : Space → Nat
  | .hbm => 48
  | .vmem => 16
  | .smem => 1
  | _ => 0

abbrev bufTy : (tb : Table) → Fin (tcTables nBuf tb) → BufTy
  | .hbm, ⟨0, _⟩ => ⟨S8x2048x4112, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x128, .f32⟩
  | .hbm, ⟨27, _⟩ => ⟨S2048x32, .f32⟩
  | .hbm, ⟨28, _⟩ => ⟨S2048x32, .f32⟩
  | .hbm, ⟨29, _⟩ => ⟨S2048x128, .f32⟩
  | .hbm, ⟨30, _⟩ => ⟨S16384x4112, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x256, .f32⟩
  | .hbm, ⟨35, _⟩ => ⟨S16384x256, .f32⟩
  | .hbm, ⟨36, _⟩ => ⟨S16384x512, .f32⟩
  | .hbm, ⟨37, _⟩ => ⟨S16384x4096, .f32⟩
  | .hbm, ⟨38, _⟩ => ⟨S16384x4096, .bf16⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S1x128, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x1024, .bf16⟩
  | .local _ .vmem, ⟨13, _⟩ => ⟨S128x1024, .bf16⟩
  | .local _ .vmem, ⟨14, _⟩ => ⟨S4x128x128, .bf16⟩
  | .local _ .vmem, ⟨15, _⟩ => ⟨S4x128x128, .bf16⟩
  | .local _ .smem, ⟨0, _⟩ => ⟨S16, .f32⟩
  | _, _ => ⟨S8x2048x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c12_i32 : BitVec 32 := 12#32
  let c0_i32 : BitVec 32 := 0#32
  ![v1.toNat, c12_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c13_i32 : BitVec 32 := 13#32
  let c0_i32 : BitVec 32 := 0#32
  ![v1.toNat, c13_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x2048x4112 : Shape := ⟨3, ![8, 2048, 4112]⟩
abbrev S64 : Shape := ⟨1, ![64]⟩
abbrev S16 : Shape := ⟨1, ![16]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S8x2048x1024 : Shape := ⟨3, ![8, 2048, 1024]⟩
abbrev S8x2048x256 : Shape := ⟨3, ![8, 2048, 256]⟩
abbrev S8x2048x2576 : Shape := ⟨3, ![8, 2048, 2576]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x16x32 : Shape := ⟨4, ![8, 2048, 16, 32]⟩
abbrev S1x2048x1x32 : Shape := ⟨4, ![1, 2048, 1, 32]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S8x2048x4x32 : Shape := ⟨4, ![8, 2048, 4, 32]⟩
abbrev S8x16x128x4x4x64 : Shape := ⟨6, ![8, 16, 128, 4, 4, 64]⟩
abbrev S8x16x128x4x64 : Shape := ⟨5, ![8, 16, 128, 4, 64]⟩
abbrev S8x1x128x4x64 : Shape := ⟨5, ![8, 1, 128, 4, 64]⟩
abbrev S8x15x128x4x64 : Shape := ⟨5, ![8, 15, 128, 4, 64]⟩
abbrev S8x16x256x4x64 : Shape := ⟨5, ![8, 16, 256, 4, 64]⟩
abbrev S8x16x4x256x128x4 : Shape := ⟨6, ![8, 16, 4, 256, 128, 4]⟩
abbrev S8x16x4x4x128x256 : Shape := ⟨6, ![8, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S16x128x256 : Shape := ⟨3, ![16, 128, 256]⟩
abbrev S1x128x256 : Shape := ⟨3, ![1, 128, 256]⟩
abbrev S1x16x1x1x128x256 : Shape := ⟨6, ![1, 16, 1, 1, 128, 256]⟩
abbrev S4x4 : Shape := ⟨2, ![4, 4]⟩
abbrev S1x1x4x4x1x1 : Shape := ⟨6, ![1, 1, 4, 4, 1, 1]⟩
abbrev S8x16x4x4x128 : Shape := ⟨5, ![8, 16, 4, 4, 128]⟩
abbrev S8x16x4x4x128x1 : Shape := ⟨6, ![8, 16, 4, 4, 128, 1]⟩
abbrev S8x16x4x64x4x128 : Shape := ⟨6, ![8, 16, 4, 64, 4, 128]⟩
abbrev S16384x1024 : Shape := ⟨2, ![16384, 1024]⟩

abbrev nBuf : Space → Nat
  | .hbm => 177
  | .vmem => 0
  | .smem => 0
  | _ => 0

abbrev hbmTy0_0 (i : Nat) : BufTy := match i % 128 with
  | 0 => ⟨S8x2048x4112, .f32⟩
  | 1 => ⟨S64, .f32⟩
  | 2 => ⟨S64, .f32⟩
  | 3 => ⟨S16, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S2048, .f32⟩
  | 19 => ⟨S2048x1, .f32⟩
  | 20 => ⟨S1x32, .f32⟩
  | 21 => ⟨S2048x32, .f32⟩
  | 22 => ⟨S2048x32, .f32⟩
  | 23 => ⟨S2048x32, .f32⟩
  | 24 => ⟨S2048x32, .f32⟩
  | 25 => ⟨S2048x32, .f32⟩
  | 26 => ⟨S8x2048x1024, .f32⟩
  | 27 => ⟨S8x2048x256, .f32⟩
  | 28 => ⟨S8x2048x256, .f32⟩
  | 29 => ⟨S8x2048x2576, .f32⟩
  | 30 => ⟨S8x2048x16x64, .f32⟩
  | 31 => ⟨S8x2048x16x64, .f32⟩
  | 32 => ⟨S_, .f32⟩
  | 33 => ⟨S8x2048x16, .f32⟩
  | 34 => ⟨S8x2048x16x1, .f32⟩
  | 35 => ⟨S_, .f32⟩
  | 36 => ⟨S8x2048x16x1, .f32⟩
  | 37 => ⟨S8x2048x16x1, .f32⟩
  | 38 => ⟨S_, .f32⟩
  | 39 => ⟨S8x2048x16x1, .f32⟩
  | 40 => ⟨S8x2048x16x1, .f32⟩
  | 41 => ⟨S8x2048x16x1, .f32⟩
  | 42 => ⟨S8x2048x16x64, .f32⟩
  | 43 => ⟨S8x2048x16x64, .f32⟩
  | 44 => ⟨S1x1x1x64, .f32⟩
  | 45 => ⟨S8x2048x16x64, .f32⟩
  | 46 => ⟨S8x2048x16x64, .f32⟩
  | 47 => ⟨S8x2048x16x32, .f32⟩
  | 48 => ⟨S8x2048x16x32, .f32⟩
  | 49 => ⟨S1x2048x1x32, .f32⟩
  | 50 => ⟨S1x2048x1x32, .f32⟩
  | 51 => ⟨S8x2048x16x32, .f32⟩
  | 52 => ⟨S8x2048x16x32, .f32⟩
  | 53 => ⟨S8x2048x16x32, .f32⟩
  | 54 => ⟨S8x2048x16x32, .f32⟩
  | 55 => ⟨S8x2048x16x32, .f32⟩
  | 56 => ⟨S8x2048x16x32, .f32⟩
  | 57 => ⟨S8x2048x16x32, .f32⟩
  | 58 => ⟨S8x2048x16x32, .f32⟩
  | 59 => ⟨S8x2048x16x32, .f32⟩
  | 60 => ⟨S8x2048x16x32, .f32⟩
  | 61 => ⟨S8x2048x16x64, .f32⟩
  | 62 => ⟨S8x2048x4x64, .f32⟩
  | 63 => ⟨S8x2048x4x64, .f32⟩
  | 64 => ⟨S_, .f32⟩
  | 65 => ⟨S8x2048x4, .f32⟩
  | 66 => ⟨S8x2048x4x1, .f32⟩
  | 67 => ⟨S_, .f32⟩
  | 68 => ⟨S8x2048x4x1, .f32⟩
  | 69 => ⟨S8x2048x4x1, .f32⟩
  | 70 => ⟨S_, .f32⟩
  | 71 => ⟨S8x2048x4x1, .f32⟩
  | 72 => ⟨S8x2048x4x1, .f32⟩
  | 73 => ⟨S8x2048x4x1, .f32⟩
  | 74 => ⟨S8x2048x4x64, .f32⟩
  | 75 => ⟨S8x2048x4x64, .f32⟩
  | 76 => ⟨S1x1x1x64, .f32⟩
  | 77 => ⟨S8x2048x4x64, .f32⟩
  | 78 => ⟨S8x2048x4x64, .f32⟩
  | 79 => ⟨S8x2048x4x32, .f32⟩
  | 80 => ⟨S8x2048x4x32, .f32⟩
  | 81 => ⟨S1x2048x1x32, .f32⟩
  | 82 => ⟨S1x2048x1x32, .f32⟩
  | 83 => ⟨S8x2048x4x32, .f32⟩
  | 84 => ⟨S8x2048x4x32, .f32⟩
  | 85 => ⟨S8x2048x4x32, .f32⟩
  | 86 => ⟨S8x2048x4x32, .f32⟩
  | 87 => ⟨S8x2048x4x32, .f32⟩
  | 88 => ⟨S8x2048x4x32, .f32⟩
  | 89 => ⟨S8x2048x4x32, .f32⟩
  | 90 => ⟨S8x2048x4x32, .f32⟩
  | 91 => ⟨S8x2048x4x32, .f32⟩
  | 92 => ⟨S8x2048x4x32, .f32⟩
  | 93 => ⟨S8x2048x4x64, .f32⟩
  | 94 => ⟨S8x2048x4x64, .f32⟩
  | 95 => ⟨S8x16x128x4x4x64, .f32⟩
  | 96 => ⟨S8x16x128x4x64, .f32⟩
  | 97 => ⟨S8x16x128x4x64, .f32⟩
  | 98 => ⟨S8x1x128x4x64, .f32⟩
  | 99 => ⟨S_, .f32⟩
  | 100 => ⟨S8x1x128x4x64, .f32⟩
  | 101 => ⟨S8x15x128x4x64, .f32⟩
  | 102 => ⟨S8x16x128x4x64, .f32⟩
  | 103 => ⟨S8x16x256x4x64, .f32⟩
  | 104 => ⟨S8x1x128x4x64, .f32⟩
  | 105 => ⟨S_, .f32⟩
  | 106 => ⟨S8x1x128x4x64, .f32⟩
  | 107 => ⟨S8x15x128x4x64, .f32⟩
  | 108 => ⟨S8x16x128x4x64, .f32⟩
  | 109 => ⟨S8x16x256x4x64, .f32⟩
  | 110 => ⟨S8x16x4x256x128x4, .f32⟩
  | 111 => ⟨S8x16x4x4x128x256, .f32⟩
  | 112 => ⟨S_, .f32⟩
  | 113 => ⟨S8x16x4x4x128x256, .f32⟩
  | 114 => ⟨S8x16x4x4x128x256, .f32⟩
  | 115 => ⟨S128, .i32⟩
  | 116 => ⟨S128x1, .i32⟩
  | 117 => ⟨S_, .i32⟩
  | 118 => ⟨S128x1, .i32⟩
  | 119 => ⟨S128x1, .i32⟩
  | 120 => ⟨S256, .i32⟩
  | 121 => ⟨S1x256, .i32⟩
  | 122 => ⟨S128x256, .i32⟩
  | 123 => ⟨S128x256, .i32⟩
  | 124 => ⟨S128x256, .i1⟩
  | 125 => ⟨S128x256, .i32⟩
  | 126 => ⟨S128x256, .i32⟩
  | 127 => ⟨S128x256, .i32⟩
  | _ => ⟨S8x2048x4112, .f32⟩

abbrev hbmTy0_1 (i : Nat) : BufTy := match i % 128 with
  | 0 => ⟨S_, .i32⟩
  | 1 => ⟨S128x256, .i32⟩
  | 2 => ⟨S128x256, .i1⟩
  | 3 => ⟨S128x256, .i1⟩
  | 4 => ⟨S_, .i32⟩
  | 5 => ⟨S1x256, .i32⟩
  | 6 => ⟨S1x256, .i1⟩
  | 7 => ⟨S128x256, .i1⟩
  | 8 => ⟨S128x256, .i1⟩
  | 9 => ⟨S16, .i32⟩
  | 10 => ⟨S_, .i32⟩
  | 11 => ⟨S16, .i32⟩
  | 12 => ⟨S16, .i1⟩
  | 13 => ⟨S16x1x1, .i1⟩
  | 14 => ⟨S16x128x256, .i1⟩
  | 15 => ⟨S1x128x256, .i1⟩
  | 16 => ⟨S16x128x256, .i1⟩
  | 17 => ⟨S1x128x256, .i1⟩
  | 18 => ⟨S16x128x256, .i1⟩
  | 19 => ⟨S16x128x256, .i1⟩
  | 20 => ⟨S1x16x1x1x128x256, .i1⟩
  | 21 => ⟨S8x16x4x4x128x256, .i1⟩
  | 22 => ⟨S_, .f32⟩
  | 23 => ⟨S8x16x4x4x128x256, .f32⟩
  | 24 => ⟨S8x16x4x4x128x256, .f32⟩
  | 25 => ⟨S4x4, .f32⟩
  | 26 => ⟨S1x1x4x4x1x1, .f32⟩
  | 27 => ⟨S_, .f32⟩
  | 28 => ⟨S8x16x4x4x128, .f32⟩
  | 29 => ⟨S8x16x4x4x128x1, .f32⟩
  | 30 => ⟨S8x16x4x4x128x1, .f32⟩
  | 31 => ⟨S8x16x4x4x128x1, .f32⟩
  | 32 => ⟨S8x16x4x4x128x256, .f32⟩
  | 33 => ⟨S8x16x4x4x128x256, .f32⟩
  | 34 => ⟨S8x16x4x4x128x256, .f32⟩
  | 35 => ⟨S_, .f32⟩
  | 36 => ⟨S8x16x4x4x128, .f32⟩
  | 37 => ⟨S8x16x4x4x128x1, .f32⟩
  | 38 => ⟨S8x16x4x4x128x1, .f32⟩
  | 39 => ⟨S8x16x4x4x128x1, .f32⟩
  | 40 => ⟨S8x16x4x4x128x1, .f32⟩
  | 41 => ⟨S8x16x4x4x128x1, .f32⟩
  | 42 => ⟨S8x16x4x4x128x256, .f32⟩
  | 43 => ⟨S8x16x4x4x128x256, .f32⟩
  | 44 => ⟨S8x16x4x64x4x128, .f32⟩
  | 45 => ⟨S8x16x128x4x4x64, .f32⟩
  | 46 => ⟨S8x2048x1024, .f32⟩
  | 47 => ⟨S16384x1024, .f32⟩
  | 48 => ⟨S16384x1024, .bf16⟩
  | _ => ⟨S8x2048x4112, .f32⟩

abbrev hbmTy (i : Nat) : BufTy := match i / 128 with
  | 0 => hbmTy0_0 i
  | 1 => hbmTy0_1 i
  | _ => ⟨S8x2048x4112, .f32⟩

abbrev bufTy : (tb : Table) → Fin (tcTables nBuf tb) → BufTy
  | .hbm, ⟨i, _⟩ => hbmTy i
  | _, _ => ⟨S8x2048x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_9 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_10 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_11 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_c : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_c_12 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_c_13 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_c_14 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_15 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_cst_16 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_17 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩

abbrev nD : Nat := 1
abbrev τ : Topo := Topo.v7x

variable {F : FTy → Type} [FloatOps F]
-- ==== Kernel2.lean ====
abbrev S8x2048x2048 : Shape := ⟨3, ![8, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S16384x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8x2048x2048 : Shape := ⟨3, ![8, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8x2048x8192 : Shape := ⟨3, ![8, 2048, 8192]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S1x2048x8192, .f32⟩
  | .hbm, ⟨23, _⟩ => ⟨S2048x8192, .f32⟩
  | .hbm, ⟨24, _⟩ => ⟨S1x8192x2048, .f32⟩
  | .hbm, ⟨25, _⟩ => ⟨S8192x2048, .f32⟩
  | .hbm, ⟨26, _⟩ => ⟨S8x2048x8192, .f32⟩
  | .hbm, ⟨27, _⟩ => ⟨S_, .f32⟩
  | .hbm, ⟨28, _⟩ => ⟨S8x2048x8192, .f32⟩
  | .hbm, ⟨29, _⟩ => ⟨S8x2048x8192, .f32⟩
  | .hbm, ⟨30, _⟩ => ⟨S8x2048x8192, .f32⟩
  | .hbm, ⟨31, _⟩ => ⟨S8x2048x2048, .f32⟩
  | .hbm, ⟨32, _⟩ => ⟨S8x2048x2048, .f32⟩
  | .hbm, ⟨33, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S8x2048x2048 : Shape := ⟨3, ![8, 2048, 2048]⟩
abbrev S2048x2048 : Shape := ⟨2, ![2048, 2048]⟩
abbrev S16384x2048 : Shape := ⟨2, ![16384, 2048]⟩
abbrev S1x16384x2048 : Shape := ⟨3, ![1, 16384, 2048]⟩
abbrev S3x16384x2048 : Shape := ⟨3, ![3, 16384, 2048]⟩
abbrev S1x2048x2048 : Shape := ⟨3, ![1, 2048, 2048]⟩
abbrev S3x2048x2048 : Shape := ⟨3, ![3, 2048, 2048]⟩
abbrev S1x1024x2048 : Shape := ⟨3, ![1, 1024, 2048]⟩
abbrev S1024x2048 : Shape := ⟨2, ![1024, 2048]⟩

abbrev nBuf : Space → Nat
  | .hbm => 22
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .bf16⟩
  | .hbm, ⟨10, _⟩ => ⟨S16384x2048, .f32⟩
  | .hbm, ⟨11, _⟩ => ⟨S16384x2048, .bf16⟩
  | .hbm, ⟨12, _⟩ => ⟨S1x16384x2048, .bf16⟩
  | .hbm, ⟨13, _⟩ => ⟨S1x16384x2048, .bf16⟩
  | .hbm, ⟨14, _⟩ => ⟨S1x16384x2048, .bf16⟩
  | .hbm, ⟨15, _⟩ => ⟨S3x16384x2048, .bf16⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S3x2048x2048, .f32⟩
  | .hbm, ⟨20, _⟩ => ⟨S3x2048x2048, .bf16⟩
  | .hbm, ⟨21, _⟩ => ⟨S3x16384x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1024x2048, .bf16⟩
  | .local _ .vmem, ⟨5, _⟩ => ⟨S1x1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference3Ideal.lean ====
abbrev S8x2048x2048 : Shape := ⟨3, ![8, 2048, 2048]⟩
abbrev S2048x2048 : Shape := ⟨2, ![2048, 2048]⟩
abbrev S16384x2048 : Shape := ⟨2, ![16384, 2048]⟩
abbrev S1x16384x2048 : Shape := ⟨3, ![1, 16384, 2048]⟩
abbrev S3x16384x2048 : Shape := ⟨3, ![3, 16384, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S1x16384x2048, .f32⟩
  | .hbm, ⟨13, _⟩ => ⟨S1x16384x2048, .f32⟩
  | .hbm, ⟨14, _⟩ => ⟨S1x16384x2048, .f32⟩
  | .hbm, ⟨15, _⟩ => ⟨S3x16384x2048, .f32⟩
  | .hbm, ⟨16, _⟩ => ⟨S3x16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel4.lean ====
abbrev S8x2048x2048 : Shape := ⟨3, ![8, 2048, 2048]⟩
abbrev S8x2048x1024 : Shape := ⟨3, ![8, 2048, 1024]⟩
abbrev S2048x2048 : Shape := ⟨2, ![2048, 2048]⟩
abbrev S16384x2048 : Shape := ⟨2, ![16384, 2048]⟩
abbrev S16384x1024 : Shape := ⟨2, ![16384, 1024]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S8x2048x1024, .f32⟩
  | .hbm, ⟨3, _⟩ => ⟨S2048x2048, .f32⟩
  | .hbm, ⟨4, _⟩ => ⟨S16384x2048, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S2048x2048, .bf16⟩
  | .hbm, ⟨10, _⟩ => ⟨S1024x2048, .bf16⟩
  | .hbm, ⟨11, _⟩ => ⟨S1024x2048, .bf16⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x2048x2048 : Shape := ⟨3, ![8, 2048, 2048]⟩
abbrev S8x2048x1024 : Shape := ⟨3, ![8, 2048, 1024]⟩
abbrev S2048x2048 : Shape := ⟨2, ![2048, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S8x2048x1024, .f32⟩
  | .hbm, ⟨3, _⟩ => ⟨S2048x2048, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S8x2048x2048 : Shape := ⟨3, ![8, 2048, 2048]⟩
abbrev S2048x2048 : Shape := ⟨2, ![2048, 2048]⟩
abbrev S16384x2048 : Shape := ⟨2, ![16384, 2048]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .bf16⟩
  | .hbm, ⟨6, _⟩ => ⟨S2048x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x2048x2048 : Shape := ⟨3, ![8, 2048, 2048]⟩
abbrev S2048x2048 : Shape := ⟨2, ![2048, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048x2048, .f32⟩
  | .hbm, ⟨3, _⟩ => ⟨S8x2048x2048, .f32⟩
  | .hbm, ⟨4, _⟩ => ⟨S8x2048x2048, .f32⟩
  | .hbm, ⟨5, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8x2048x2048 : Shape := ⟨3, ![8, 2048, 2048]⟩
abbrev S2048 : Shape := ⟨1, ![2048]⟩
abbrev S2048x4112 : Shape := ⟨2, ![2048, 4112]⟩
abbrev S16384x2048 : Shape := ⟨2, ![16384, 2048]⟩
abbrev S2048x1024 : Shape := ⟨2, ![2048, 1024]⟩
abbrev S2048x256 : Shape := ⟨2, ![2048, 256]⟩
abbrev S2048x512 : Shape := ⟨2, ![2048, 512]⟩
abbrev S2048x4096 : Shape := ⟨2, ![2048, 4096]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S16384x4096 : Shape := ⟨2, ![16384, 4096]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 20
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x4112, .f32⟩
  | .hbm, ⟨3, _⟩ => ⟨S16384x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x256, .f32⟩
  | .hbm, ⟨8, _⟩ => ⟨S2048x256, .f32⟩
  | .hbm, ⟨9, _⟩ => ⟨S2048x512, .f32⟩
  | .hbm, ⟨10, _⟩ => ⟨S2048x4096, .f32⟩
  | .hbm, ⟨11, _⟩ => ⟨S2048x4096, .bf16⟩
  | .hbm, ⟨12, _⟩ => ⟨S2048x16, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S1x2048, .f32⟩
  | .hbm, ⟨18, _⟩ => ⟨S16384x4096, .bf16⟩
  | .hbm, ⟨19, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S8x2048x2048 : Shape := ⟨3, ![8, 2048, 2048]⟩
abbrev S2048 : Shape := ⟨1, ![2048]⟩
abbrev S2048x4112 : Shape := ⟨2, ![2048, 4112]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x4112 : Shape := ⟨3, ![8, 2048, 4112]⟩
abbrev S8x2048x1024 : Shape := ⟨3, ![8, 2048, 1024]⟩
abbrev S8x2048x256 : Shape := ⟨3, ![8, 2048, 256]⟩
abbrev S8x2048x1536 : Shape := ⟨3, ![8, 2048, 1536]⟩
abbrev S8x2048x16 : Shape := ⟨3, ![8, 2048, 16]⟩
abbrev S8x2048x512 : Shape := ⟨3, ![8, 2048, 512]⟩
abbrev S8x2048x4096 : Shape := ⟨3, ![8, 2048, 4096]⟩
abbrev S16384x4096 : Shape := ⟨2, ![16384, 4096]⟩
abbrev S8x2048x112 : Shape := ⟨3, ![8, 2048, 112]⟩
abbrev S8x2048x128 : Shape := ⟨3, ![8, 2048, 128]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x4112, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S8x2048x4112, .f32⟩
  | .hbm, ⟨20, _⟩ => ⟨S8x2048x1024, .f32⟩
  | .hbm, ⟨21, _⟩ => ⟨S8x2048x256, .f32⟩
  | .hbm, ⟨22, _⟩ => ⟨S8x2048x256, .f32⟩
  | .hbm, ⟨23, _⟩ => ⟨S8x2048x1024, .f32⟩
  | .hbm, ⟨24, _⟩ => ⟨S8x2048x1536, .f32⟩
  | .hbm, ⟨25, _⟩ => ⟨S8x2048x16, .f32⟩
  | .hbm, ⟨26, _⟩ => ⟨S8x2048x1024, .f32⟩
  | .hbm, ⟨27, _⟩ => ⟨S8x2048x512, .f32⟩
  | .hbm, ⟨28, _⟩ => ⟨S8x2048x4096, .f32⟩
  | .hbm, ⟨29, _⟩ => ⟨S16384x4096, .f32⟩
  | .hbm, ⟨30, _⟩ => ⟨S16384x4096, .bf16⟩
  | .hbm, ⟨31, _⟩ => ⟨S_, .f32⟩
  | .hbm, ⟨32, _⟩ => ⟨S8x2048x112, .f32⟩
  | .hbm, ⟨33, _⟩ => ⟨S8x2048x128, .f32⟩
  | .hbm, ⟨34, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel7.lean ====
abbrev S8x2048x2048 : Shape := ⟨3, ![8, 2048, 2048]⟩
abbrev S2048 : Shape := ⟨1, ![2048]⟩
abbrev S6x2048 : Shape := ⟨2, ![6, 2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S16384x2048 : Shape := ⟨2, ![16384, 2048]⟩
abbrev S1x2048 : Shape := ⟨2, ![1, 2048]⟩
abbrev S_ : Shape := ⟨0, ![]⟩
abbrev S2048x128 : Shape := ⟨2, ![2048, 128]⟩
abbrev S128x2048 : Shape := ⟨2, ![128, 2048]⟩
abbrev S3x16384x2048 : Shape := ⟨3, ![3, 16384, 2048]⟩
abbrev S8x2048 : Shape := ⟨2, ![8, 2048]⟩
abbrev S3x256x2048 : Shape := ⟨3, ![3, 256, 2048]⟩
abbrev S264x2048 : Shape := ⟨2, ![264, 2048]⟩
abbrev S256 : Shape := ⟨1, ![256]⟩
abbrev S256x1 : Shape := ⟨2, ![256, 1]⟩
abbrev S8 : Shape := ⟨1, ![8]⟩
abbrev S8x1 : Shape := ⟨2, ![8, 1]⟩
abbrev S1x256x2048 : Shape := ⟨3, ![1, 256, 2048]⟩
abbrev S256x128 : Shape := ⟨2, ![256, 128]⟩
abbrev S256x256 : Shape := ⟨2, ![256, 256]⟩

abbrev nBuf : Space → Nat
  | .hbm => 56
  | .vmem => 23
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S6x2048, .f32⟩
  | .hbm, ⟨3, _⟩ => ⟨S2048, .f32⟩
  | .hbm, ⟨4, _⟩ => ⟨S2048x96, .f32⟩
  | .hbm, ⟨5, _⟩ => ⟨S96x2048, .f32⟩
  | .hbm, ⟨6, _⟩ => ⟨S2048, .f32⟩
  | .hbm, ⟨7, _⟩ => ⟨S2048x96, .f32⟩
  | .hbm, ⟨8, _⟩ => ⟨S96x2048, .f32⟩
  | .hbm, ⟨9, _⟩ => ⟨S2048x256, .f32⟩
  | .hbm, ⟨10, _⟩ => ⟨S256x2048, .f32⟩
  | .hbm, ⟨11, _⟩ => ⟨S16384x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S6x2048, .f32⟩
  | .hbm, ⟨31, _⟩ => ⟨S_, .i32⟩
  | .hbm, ⟨32, _⟩ => ⟨S_, .f32⟩
  | .hbm, ⟨33, _⟩ => ⟨S2048x128, .f32⟩
  | .hbm, ⟨34, _⟩ => ⟨S2048x128, .bf16⟩
  | .hbm, ⟨35, _⟩ => ⟨S_, .i32⟩
  | .hbm, ⟨36, _⟩ => ⟨S_, .f32⟩
  | .hbm, ⟨37, _⟩ => ⟨S2048x128, .f32⟩
  | .hbm, ⟨38, _⟩ => ⟨S2048x128, .bf16⟩
  | .hbm, ⟨39, _⟩ => ⟨S_, .i32⟩
  | .hbm, ⟨40, _⟩ => ⟨S_, .f32⟩
  | .hbm, ⟨41, _⟩ => ⟨S128x2048, .f32⟩
  | .hbm, ⟨42, _⟩ => ⟨S128x2048, .bf16⟩
  | .hbm, ⟨43, _⟩ => ⟨S_, .i32⟩
  | .hbm, ⟨44, _⟩ => ⟨S_, .f32⟩
  | .hbm, ⟨45, _⟩ => ⟨S128x2048, .f32⟩
  | .hbm, ⟨46, _⟩ => ⟨S128x2048, .bf16⟩
  | .hbm, ⟨47, _⟩ => ⟨S1x2048, .f32⟩
  | .hbm, ⟨48, _⟩ => ⟨S2048x256, .bf16⟩
  | .hbm, ⟨49, _⟩ => ⟨S256x2048, .bf16⟩
  | .hbm, ⟨50, _⟩ => ⟨S1x2048, .f32⟩
  | .hbm, ⟨51, _⟩ => ⟨S1x2048, .f32⟩
  | .hbm, ⟨52, _⟩ => ⟨S3x16384x2048, .bf16⟩
  | .hbm, ⟨53, _⟩ => ⟨S16384x2048, .f32⟩
  | .hbm, ⟨54, _⟩ => ⟨S16384x2048, .bf16⟩
  | .hbm, ⟨55, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S6x2048, .f32⟩
  | .local _ .vmem, ⟨6, _⟩ => ⟨S2048x128, .bf16⟩
  | .local _ .vmem, ⟨7, _⟩ => ⟨S2048x128, .bf16⟩
  | .local _ .vmem, ⟨8, _⟩ => ⟨S2048x256, .bf16⟩
  | .local _ .vmem, ⟨9, _⟩ => ⟨S128x2048, .bf16⟩
  | .local _ .vmem, ⟨10, _⟩ => ⟨S128x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S3x256x2048, .bf16⟩
  | .local _ .vmem, ⟨15, _⟩ => ⟨S3x256x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S264x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_call2_v0 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_call3_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev main_v33_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S8x2048x2048 : Shape := ⟨3, ![8, 2048, 2048]⟩
abbrev S2048 : Shape := ⟨1, ![2048]⟩
abbrev S6x2048 : Shape := ⟨2, ![6, 2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2049x2048 : Shape := ⟨3, ![8, 2049, 2048]⟩
abbrev S1x2048 : Shape := ⟨2, ![1, 2048]⟩
abbrev S8x2048x96 : Shape := ⟨3, ![8, 2048, 96]⟩
abbrev S8x2048x256 : Shape := ⟨3, ![8, 2048, 256]⟩
abbrev S16384x2048 : Shape := ⟨2, ![16384, 2048]⟩
abbrev S1x16384x2048 : Shape := ⟨3, ![1, 16384, 2048]⟩
abbrev S3x16384x2048 : Shape := ⟨3, ![3, 16384, 2048]⟩

abbrev nBuf : Space → Nat
  | .hbm => 105
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S6x2048, .f32⟩
  | .hbm, ⟨3, _⟩ => ⟨S2048, .f32⟩
  | .hbm, ⟨4, _⟩ => ⟨S2048x96, .f32⟩
  | .hbm, ⟨5, _⟩ => ⟨S96x2048, .f32⟩
  | .hbm, ⟨6, _⟩ => ⟨S2048, .f32⟩
  | .hbm, ⟨7, _⟩ => ⟨S2048x96, .f32⟩
  | .hbm, ⟨8, _⟩ => ⟨S96x2048, .f32⟩
  | .hbm, ⟨9, _⟩ => ⟨S2048x256, .f32⟩
  | .hbm, ⟨10, _⟩ => ⟨S256x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S1x1x2048, .f32⟩
  | .hbm, ⟨25, _⟩ => ⟨S8x2048x2048, .f32⟩
  | .hbm, ⟨26, _⟩ => ⟨S8x2048x2048, .f32⟩
  | .hbm, ⟨27, _⟩ => ⟨S_, .i32⟩
  | .hbm, ⟨28, _⟩ => ⟨S_, .f32⟩
  | .hbm, ⟨29, _⟩ => ⟨S8x2049x2048, .f32⟩
  | .hbm, ⟨30, _⟩ => ⟨S8x2048x2048, .f32⟩
  | .hbm, ⟨31, _⟩ => ⟨S8x2048x2048, .f32⟩
  | .hbm, ⟨32, _⟩ => ⟨S1x2048, .f32⟩
  | .hbm, ⟨33, _⟩ => ⟨S2048, .f32⟩
  | .hbm, ⟨34, _⟩ => ⟨S1x1x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S1x2048, .f32⟩
  | .hbm, ⟨39, _⟩ => ⟨S2048, .f32⟩
  | .hbm, ⟨40, _⟩ => ⟨S1x1x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S1x2048, .f32⟩
  | .hbm, ⟨45, _⟩ => ⟨S2048, .f32⟩
  | .hbm, ⟨46, _⟩ => ⟨S1x1x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S1x2048, .f32⟩
  | .hbm, ⟨51, _⟩ => ⟨S2048, .f32⟩
  | .hbm, ⟨52, _⟩ => ⟨S1x1x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S1x2048, .f32⟩
  | .hbm, ⟨57, _⟩ => ⟨S2048, .f32⟩
  | .hbm, ⟨58, _⟩ => ⟨S1x1x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S1x2048, .f32⟩
  | .hbm, ⟨63, _⟩ => ⟨S2048, .f32⟩
  | .hbm, ⟨64, _⟩ => ⟨S1x1x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S8x2048x96, .f32⟩
  | .hbm, ⟨69, _⟩ => ⟨S8x2048x2048, .f32⟩
  | .hbm, ⟨70, _⟩ => ⟨S1x1x2048, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048x2048, .f32⟩
  | .hbm, ⟨80, _⟩ => ⟨S8x2048x2048, .f32⟩
  | .hbm, ⟨81, _⟩ => ⟨S8x2048x256, .f32⟩
  | .hbm, ⟨82, _⟩ => ⟨S8x2048x256, .f32⟩
  | .hbm, ⟨83, _⟩ => ⟨S8x2048x256, .f32⟩
  | .hbm, ⟨84, _⟩ => ⟨S_, .f32⟩
  | .hbm, ⟨85, _⟩ => ⟨S8x2048x256, .f32⟩
  | .hbm, ⟨86, _⟩ => ⟨S8x2048x256, .f32⟩
  | .hbm, ⟨87, _⟩ => ⟨S_, .f32⟩
  | .hbm, ⟨88, _⟩ => ⟨S8x2048x256, .f32⟩
  | .hbm, ⟨89, _⟩ => ⟨S8x2048x256, .f32⟩
  | .hbm, ⟨90, _⟩ => ⟨S8x2048x2048, .f32⟩
  | .hbm, ⟨91, _⟩ => ⟨S16384x2048, .f32⟩
  | .hbm, ⟨92, _⟩ => ⟨S16384x2048, .bf16⟩
  | .hbm, ⟨93, _⟩ => ⟨S16384x2048, .f32⟩
  | .hbm, ⟨94, _⟩ => ⟨S16384x2048, .bf16⟩
  | .hbm, ⟨95, _⟩ => ⟨S16384x2048, .f32⟩
  | .hbm, ⟨96, _⟩ => ⟨S16384x2048, .bf16⟩
  | .hbm, ⟨97, _⟩ => ⟨S1x16384x2048, .bf16⟩
  | .hbm, ⟨98, _⟩ => ⟨S1x16384x2048, .bf16⟩
  | .hbm, ⟨99, _⟩ => ⟨S1x16384x2048, .bf16⟩
  | .hbm, ⟨100, _⟩ => ⟨S3x16384x2048, .bf16⟩
  | .hbm, ⟨101, _⟩ => ⟨S16384x2048, .f32⟩
  | .hbm, ⟨102, _⟩ => ⟨S16384x2048, .bf16⟩
  | .hbm, ⟨103, _⟩ => ⟨S16384x2048, .f32⟩
  | .hbm, ⟨104, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_2 : Ref sig .tc := ⟨.hbm, 75, rfl⟩
abbrev main_v59 : Ref sig .tc := ⟨.hbm, 76, rfl⟩
abbrev main_v60 : Ref sig .tc := ⟨.hbm, 77, rfl⟩
abbrev main_cst_3 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_4 : Ref sig .tc := ⟨.hbm, 84, rfl⟩
abbrev main_v66 : Ref sig .tc := ⟨.hbm, 85, rfl⟩
abbrev main_v67 : Ref sig .tc := ⟨.hbm, 86, rfl⟩
abbrev main_cst_5 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== Proof.AttnBody.lean ====
/- The body of the attention kernel in closed form, for any reading `F` of the floats: what one grid point stores in
   its output block and in the two scratch arrays that the next point reads, as functions of the blocks it is given.
   A point treats 128 rows. A lane block holds two heads of 64 lanes side by side. -/
module

public import proofs.«01_k».proof.Proof.Gen.KernelIdeal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.SL.Sem

/-! ## The lane masks -/

/-- The lane number modulo `w`, as the body computes it (a remainder with the sign corrected). -/
def laneMod (w : BitVec 32) : IVec S128x128 32 :=
  let d := Scalar.select (Scalar.cmpi .eq w 0#32) 1#32 w
  let r := remsi (iota .tc S128x128 32 [1] iota_S128x128_d1_w32) (broadcast S128x128 d)
  select (andi (xori (cmpi .slt r (broadcast S128x128 0#32)) (broadcastTo S128x128 (broadcast S128x128 (Scalar.cmpi .slt d 0#32)) broadcasts_S128x128_S128x128))
    (cmpi .ne r (broadcast S128x128 0#32))) (addi r (broadcast S128x128 d)) r

/-- The lanes of the first of the two heads. -/
def lowMask : IVec S128x128 1 := cmpi .slt (laneMod 128#32) (broadcast S128x128 64#32)

/-- The lanes of the first half of each head. -/
def halfMask : IVec S128x128 1 := cmpi .slt (laneMod 64#32) (broadcast S128x128 32#32)

variable {F : FTy → Type} [FloatOps F]

/-! ## The pieces of the body -/

/-- Each lane gets the sum over the lanes of its own head. -/
def headSums (x : FVec F S128x128 .f32) : FVec F S128x128 .f32 :=
  select lowMask
    (broadcastTo S128x128 (shapeCast S128x1 (shapeCast S128x1 (multiReduction .add [1] S128 (select lowMask x (broadcast S128x128 (Scalar.ofBits .f32 0x00000000#32))) 0x00000000#32 reduces_S128x128_S128 (.inl rfl) rfl) shapeCasts_S128_S128x1) shapeCasts_S128x1_S128x1) broadcasts_S128x1_S128x128)
    (broadcastTo S128x128 (shapeCast S128x1 (shapeCast S128x1 (multiReduction .add [1] S128 (select lowMask (broadcast S128x128 (Scalar.ofBits .f32 0x00000000#32)) x) 0x00000000#32 reduces_S128x128_S128 (.inl rfl) rfl) shapeCasts_S128_S128x1) shapeCasts_S128x1_S128x1) broadcasts_S128x1_S128x128)

/-- The head divided by its root mean square, times the gain. -/
def normed (g : Vec F S1x128 .f32) (x : FVec F S128x128 .f32) : FVec F S128x128 .f32 :=
  mulf (mulf x (rsqrt (addf (mulf (headSums (mulf x x)) (broadcast S128x128 (Scalar.ofBits .f32 0x3C800000#32))) (broadcast S128x128 (Scalar.ofBits .f32 0x358637BD#32)))))
    (broadcastTo S128x128 (shapeCast S1x128 g shapeCasts_S1x128_S1x128) broadcasts_S1x128_S128x128)

/-- The rotary embedding of a normed block. -/
def roped (cos sin : Vec F S128x128 .f32) (x : FVec F S128x128 .f32) : FVec F S128x128 .f32 :=
  addf (mulf x (shapeCast S128x128 cos shapeCasts_S128x128_S128x128))
    (mulf (select halfMask (dynamicRotate 1 96#32 none x rotates_S128x128_d1) (dynamicRotate 1 32#32 none x rotates_S128x128_d1)) (shapeCast S128x128 sin shapeCasts_S128x128_S128x128))

/-- Norm and rotary embedding of a block of the projection. -/
def normRope (g : Vec F S1x128 .f32) (cos sin : Vec F S128x128 .f32) (x : Vec F S128x128 .bf16) : FVec F S128x128 .f32 :=
  roped cos sin (normed g (extf .f32 (shapeCast S128x128 x shapeCasts_S128x128_S128x128) bitsLt_bf16_f32))

/-- The first head of a pair, in both halves of the lanes. -/
def dupLo (x : FVec F S128x128 .f32) : FVec F S128x128 .bf16 :=
  truncf .bf16 (select lowMask x (dynamicRotate 1 64#32 none x rotates_S128x128_d1)) bitsLt_bf16_f32

/-- The second head of a pair, in both halves of the lanes. -/
def dupHi (x : FVec F S128x128 .f32) : FVec F S128x128 .bf16 :=
  truncf .bf16 (select lowMask (dynamicRotate 1 64#32 none x rotates_S128x128_d1) x) bitsLt_bf16_f32

/-- The two heads of a scaled pair of queries as two sets of rows, each with zeros at the other head's lanes. -/
def queryRows (g : Vec F S1x128 .f32) (cos sin : Vec F S128x128 .f32) (x : Vec F S128x128 .bf16) : FVec F S256x128 .bf16 :=
  let q := truncf .bf16 (mulf (normRope g cos sin x) (broadcast S128x128 (Scalar.ofBits .f32 0x3E000000#32))) bitsLt_bf16_f32
  let z : FVec F S128x128 .bf16 := broadcast S128x128 (Scalar.ofBits .bf16 0x0000#16)
  concatenate S256x128 0 [⟨S128x128, select lowMask q z⟩, ⟨S128x128, select lowMask z q⟩] concatenates_S128x128_S128x128_S256x128_d0

/-- The rows of the block before, then the rows of this block. -/
def withPrev (p : Vec F S1x128x128 .bf16) (x : FVec F S128x128 .bf16) : FVec F S256x128 .bf16 :=
  concatenate S256x128 0 [⟨S128x128, shapeCast S128x128 p shapeCasts_S1x128x128_S128x128⟩, ⟨S128x128, x⟩] concatenates_S128x128_S128x128_S256x128_d0

/-- The products of the queries of four heads with the keys. -/
def scores (q0 q1 : FVec F S256x128 .bf16) (k : FVec F S256x128 .bf16) : FVec F S512x256 .f32 :=
  matmul dot_S512x128_S256x128_S512x256_1_1_0_0_n_n none (concatenate S512x128 0 [⟨S256x128, q0⟩, ⟨S256x128, q1⟩] concatenates_S256x128_S256x128_S512x128_d0) k (constant S512x256 .f32 0x00000000#32)

/-- The sink of each of the four heads, at the head's rows. -/
def sinkCol (s : Fin 4 → Elt F .f32) : FVec F S512x1 .f32 :=
  concatenate S512x1 0 [⟨S128x1, broadcast S128x1 (s 0)⟩, ⟨S128x1, broadcast S128x1 (s 1)⟩, ⟨S128x1, broadcast S128x1 (s 2)⟩, ⟨S128x1, broadcast S128x1 (s 3)⟩] concatenates_S128x1_S128x1_S128x1_S128x1_S512x1_d0

/-- The scores outside the mask at minus infinity. -/
def masked (mask : IVec S512x256 1) (s : FVec F S512x256 .f32) : FVec F S512x256 .f32 :=
  select mask s (broadcast S512x256 (Scalar.ofBits .f32 0xFF800000#32))

/-- Each row's largest score or its sink, whichever is larger. -/
def rowMax (s : FVec F S512x256 .f32) (sink : FVec F S512x1 .f32) : FVec F S512x1 .f32 :=
  maximumf (shapeCast S512x1 (multiReduction .maximumf [1] S512 s 0xFF800000#32 reduces_S512x256_S512 (.inl rfl) rfl) shapeCasts_S512_S512x1) sink

/-- The exponentials of the scores less the row's largest. -/
def weights (s : FVec F S512x256 .f32) (sink : FVec F S512x1 .f32) : FVec F S512x256 .f32 :=
  exp (subf s (broadcastTo S512x256 (rowMax s sink) broadcasts_S512x1_S512x256))

/-- The sum of a row's exponentials, the sink's among them. -/
def rowDenom (s : FVec F S512x256 .f32) (sink : FVec F S512x1 .f32) : FVec F S512x1 .f32 :=
  addf (shapeCast S512x1 (multiReduction .add [1] S512 (weights s sink) 0x00000000#32 reduces_S512x256_S512 (.inl rfl) rfl) shapeCasts_S512_S512x1) (exp (subf sink (rowMax s sink)))

/-- The weighted values of four heads that share keys and values. -/
def attend (mask : IVec S512x256 1) (s : FVec F S512x256 .f32) (sink : FVec F S512x1 .f32) (v : FVec F S256x128 .bf16) : FVec F S512x128 .f32 :=
  divf (matmul dot_S512x256_S256x128_S512x128_1_0_0_1_n_n none (truncf .bf16 (weights (masked mask s) sink) bitsLt_bf16_f32) v (constant S512x128 .f32 0x00000000#32))
    (broadcastTo S512x128 (rowDenom (masked mask s) sink) broadcasts_S512x1_S512x128)

/-- The first two of the four heads, side by side. -/
def pairLo (o : FVec F S512x128 .f32) : FVec F S128x128 .bf16 :=
  truncf .bf16 (select lowMask (extractStridedSlice S128x128 ![0, 0] o slices_S512x128_o0_0_S128x128) (extractStridedSlice S128x128 ![128, 0] o slices_S512x128_o128_0_S128x128)) bitsLt_bf16_f32

/-- The last two of the four heads, side by side. -/
def pairHi (o : FVec F S512x128 .f32) : FVec F S128x128 .bf16 :=
  truncf .bf16 (select lowMask (extractStridedSlice S128x128 ![256, 0] o slices_S512x128_o256_0_S128x128) (extractStridedSlice S128x128 ![384, 0] o slices_S512x128_o384_0_S128x128)) bitsLt_bf16_f32

/-- The mask of a point: the keys no more than the window behind a query, and in a sequence's first block none of the
    block before. -/
def maskAt (i : grid0.Coords) : IVec S512x256 1 := k0_pay10 (iota .tc S512x256 32 [1] iota_S512x256_d1_w32) k0_pay8 (k0_pay9 i)

/-! ## What a point computes from its blocks -/

/-- Lane block `p` of a block of queries. -/
def qCol (x : Vec F S128x1024 .bf16) (p : Fin 8) : Vec F S128x128 .bf16 := fun y => x (ix2 (y 0) ⟨128 * p.val + (y 1).val, by have h : (y 1).val < 128 := (y 1).isLt; omega⟩)

/-- Lane block `p` of a block of keys or values. -/
def kCol (x : Vec F S128x256 .bf16) (p : Fin 2) : Vec F S128x128 .bf16 := fun y => x (ix2 (y 0) ⟨128 * p.val + (y 1).val, by have h : (y 1).val < 128 := (y 1).isLt; omega⟩)

/-- Head `g` of a scratch array. -/
def slab (x : Vec F S4x128x128 .bf16) (g : Fin 4) : Vec F S1x128x128 .bf16 := fun y => x (ix3 g (y 1) (y 2))

/-- Key head `g` of the point's rows, normed, embedded, in both halves of the lanes. -/
def keyHead (x : Vec F S128x256 .bf16) (cos sin : Vec F S128x128 .f32) (kn : Vec F S1x128 .f32) (g : Fin 4) : FVec F S128x128 .bf16 :=
  if g.val % 2 = 0 then dupLo (normRope kn cos sin (kCol x ⟨g.val / 2, by omega⟩)) else dupHi (normRope kn cos sin (kCol x ⟨g.val / 2, by omega⟩))

/-- Value head `g` of the point's rows, in both halves of the lanes. -/
def valHead (x : Vec F S128x256 .bf16) (g : Fin 4) : FVec F S128x128 .bf16 :=
  if g.val % 2 = 0 then dupLo (extf .f32 (shapeCast S128x128 (kCol x ⟨g.val / 2, by omega⟩) shapeCasts_S128x128_S128x128) bitsLt_bf16_f32)
  else dupHi (extf .f32 (shapeCast S128x128 (kCol x ⟨g.val / 2, by omega⟩) shapeCasts_S128x128_S128x128) bitsLt_bf16_f32)

/-- The four heads of group `g` attended to. -/
def group (mask : IVec S512x256 1) (x0 : Vec F S16 .f32) (x1 : Vec F S128x1024 .bf16) (x2 x3 : Vec F S128x256 .bf16) (x4 x5 : Vec F S128x128 .f32) (x6 x7 : Vec F S1x128 .f32)
    (xs0 xs1 : Vec F S4x128x128 .bf16) (g : Fin 4) : FVec F S512x128 .f32 :=
  attend mask
    (scores (queryRows x6 x4 x5 (qCol x1 ⟨2 * g.val, by omega⟩)) (queryRows x6 x4 x5 (qCol x1 ⟨2 * g.val + 1, by omega⟩)) (withPrev (slab xs0 g) (keyHead x2 x4 x5 x7 g)))
    (sinkCol fun r => x0 (ix1 ⟨4 * g.val + r.val, by omega⟩)) (withPrev (slab xs1 g) (valHead x3 g))

/-- Lane `l` of row `r` of the output block, given the four groups: two heads to a lane block, two lane blocks to a group. -/
def lanesOf (o : Fin 4 → FVec F S512x128 .f32) (r : Fin 128) (l : Fin 1024) : Elt F .bf16 :=
  if l.val / 128 % 2 = 0 then pairLo (o ⟨l.val / 256, by omega⟩) (ix2 r ⟨l.val % 128, by omega⟩)
  else pairHi (o ⟨l.val / 256, by omega⟩) (ix2 r ⟨l.val % 128, by omega⟩)

/-- The point's output block. -/
def outBlock (mask : IVec S512x256 1) (x0 : Vec F S16 .f32) (x1 : Vec F S128x1024 .bf16) (x2 x3 : Vec F S128x256 .bf16) (x4 x5 : Vec F S128x128 .f32) (x6 x7 : Vec F S1x128 .f32)
    (xs0 xs1 : Vec F S4x128x128 .bf16) : Vec F S128x1024 .bf16 := fun y =>
  lanesOf (group mask x0 x1 x2 x3 x4 x5 x6 x7 xs0 xs1) (y 0) (y 1)

/-- What a point leaves in a scratch array, given its four heads. -/
def leave (f : Fin 4 → FVec F S128x128 .bf16) : Vec F S4x128x128 .bf16 := fun y => f (y 0) (ix2 (y 1) (y 2))

/-- A scratch array of zeros. -/
def noRows : Vec F S4x128x128 .bf16 := broadcast S4x128x128 (Scalar.ofBits .bf16 0x0000#16)

/-! ## Loads of parts of a block -/

theorem ld_q (x : Vec F S128x1024 .bf16) (o : ℕ) (inb : ∀ a, ![0, o] a + ![128, 128] a ≤ S128x1024.size a) (p : Fin 8) (h : o = 128 * p.val) :
    View.ld x (Rect.unit (s := S128x1024) ![0, o] ![128, 128] inb) = qCol x p := by
  subst h; funext y; unfold qCol; pointwise

theorem ld_k (x : Vec F S128x256 .bf16) (o : ℕ) (inb : ∀ a, ![0, o] a + ![128, 128] a ≤ S128x256.size a) (p : Fin 2) (h : o = 128 * p.val) :
    View.ld x (Rect.unit (s := S128x256) ![0, o] ![128, 128] inb) = kCol x p := by
  subst h; funext y; unfold kCol; pointwise

theorem ld_s (x : Vec F S4x128x128 .bf16) (o : ℕ) (inb : ∀ a, ![o, 0, 0] a + ![1, 128, 128] a ≤ S4x128x128.size a) (g : Fin 4) (h : o = g.val) :
    View.ld x (Rect.unit (s := S4x128x128) ![o, 0, 0] ![1, 128, 128] inb) = slab x g := by
  subst h; funext y; unfold slab; pointwise

theorem ld_sink (x : Vec F S16 .f32) (o : ℕ) (inb : ∀ a, ![o] a + ![1] a ≤ S16.size a) (j) (q : Fin 16) (h : o = q.val) :
    View.ld x (Rect.unit (s := S16) ![o] ![1] inb) j = x (ix1 q) := by
  subst h
  have hj : (j 0).val < 1 := (j 0).isLt
  unfold View.ld; congr 1; funext a; apply Fin.ext
  match a with | ⟨0, _⟩ => show q.val + 1 * (j 0).val = q.val; omega

/-! ## The blocks of what a point stores -/

theorem lanesOf_lo (o : Fin 4 → FVec F S512x128 .f32) (g : Fin 4) (r : Fin 128) (x : Fin 128) (l : Fin 1024) (h : l.val = 256 * g.val + x.val) :
    lanesOf o r l = pairLo (o g) (ix2 r x) := by
  have e1 : (⟨l.val / 256, by omega⟩ : Fin 4) = g := Fin.ext (by show l.val / 256 = g.val; omega)
  have e2 : (⟨l.val % 128, by omega⟩ : Fin 128) = x := Fin.ext (by show l.val % 128 = x.val; omega)
  unfold lanesOf
  rw [if_pos (by omega), e1, e2]

theorem lanesOf_hi (o : Fin 4 → FVec F S512x128 .f32) (g : Fin 4) (r : Fin 128) (x : Fin 128) (l : Fin 1024) (h : l.val = 256 * g.val + 128 + x.val) :
    lanesOf o r l = pairHi (o g) (ix2 r x) := by
  have e1 : (⟨l.val / 256, by omega⟩ : Fin 4) = g := Fin.ext (by show l.val / 256 = g.val; omega)
  have e2 : (⟨l.val % 128, by omega⟩ : Fin 128) = x := Fin.ext (by show l.val % 128 = x.val; omega)
  unfold lanesOf
  rw [if_neg (by omega), e1, e2]

section
variable (mask : IVec S512x256 1) (x0 : Vec F S16 .f32) (x1 : Vec F S128x1024 .bf16) (x2 x3 : Vec F S128x256 .bf16) (x4 x5 : Vec F S128x128 .f32) (x6 x7 : Vec F S1x128 .f32)
  (xs0 xs1 : Vec F S4x128x128 .bf16)

theorem outBlock_lo (o : ℕ) (inb : ∀ a, ![0, o] a + ![128, 128] a ≤ S128x1024.size a) (g : Fin 4) (h : o = 256 * g.val) (x : S128x128.Idx) :
    outBlock mask x0 x1 x2 x3 x4 x5 x6 x7 xs0 xs1 ((Rect.unit (s := S128x1024) ![0, o] ![128, 128] inb).emb x) = pairLo (group mask x0 x1 x2 x3 x4 x5 x6 x7 xs0 xs1 g) x := by
  have e0 : ((Rect.unit (s := S128x1024) ![0, o] ![128, 128] inb).emb x 0).val = 0 + 1 * (x 0).val := rfl
  have e1 : ((Rect.unit (s := S128x1024) ![0, o] ![128, 128] inb).emb x 1).val = o + 1 * (x 1).val := rfl
  refine (lanesOf_lo _ g _ (x 1) _ (by omega)).trans (congrArg _ ?_)
  rw [eq_ix2 x]; exact congrArg (ix2 · (x 1)) (Fin.ext (by show ((Rect.unit (s := S128x1024) ![0, o] ![128, 128] inb).emb x 0).val = (x 0).val; omega))

theorem outBlock_hi (o : ℕ) (inb : ∀ a, ![0, o] a + ![128, 128] a ≤ S128x1024.size a) (g : Fin 4) (h : o = 256 * g.val + 128) (x : S128x128.Idx) :
    outBlock mask x0 x1 x2 x3 x4 x5 x6 x7 xs0 xs1 ((Rect.unit (s := S128x1024) ![0, o] ![128, 128] inb).emb x) = pairHi (group mask x0 x1 x2 x3 x4 x5 x6 x7 xs0 xs1 g) x := by
  have e0 : ((Rect.unit (s := S128x1024) ![0, o] ![128, 128] inb).emb x 0).val = 0 + 1 * (x 0).val := rfl
  have e1 : ((Rect.unit (s := S128x1024) ![0, o] ![128, 128] inb).emb x 1).val = o + 1 * (x 1).val := rfl
  refine (lanesOf_hi _ g _ (x 1) _ (by omega)).trans (congrArg _ ?_)
  rw [eq_ix2 x]; exact congrArg (ix2 · (x 1)) (Fin.ext (by show ((Rect.unit (s := S128x1024) ![0, o] ![128, 128] inb).emb x 0).val = (x 0).val; omega))

end

theorem leave_emb (f : Fin 4 → FVec F S128x128 .bf16) (o : ℕ) (inb : ∀ a, ![o, 0, 0] a + ![1, 128, 128] a ≤ S4x128x128.size a) (g : Fin 4) (h : o = g.val) (x : S1x128x128.Idx) :
    leave f ((Rect.unit (s := S4x128x128) ![o, 0, 0] ![1, 128, 128] inb).emb x) = shapeCast S1x128x128 (f g) shapeCasts_S128x128_S1x128x128 x := by
  subst h
  have hx : (x 0).val < 1 := (x 0).isLt
  have e0 : (Rect.unit (s := S4x128x128) ![g.val, 0, 0] ![1, 128, 128] inb).emb x 0 = g := Fin.ext (by show g.val + 1 * (x 0).val = g.val; omega)
  have e1 : (Rect.unit (s := S4x128x128) ![g.val, 0, 0] ![1, 128, 128] inb).emb x 1 = x 1 := Fin.ext (by show 0 + 1 * (x 1).val = (x 1).val; omega)
  have e2 : (Rect.unit (s := S4x128x128) ![g.val, 0, 0] ![1, 128, 128] inb).emb x 2 = x 2 := Fin.ext (by show 0 + 1 * (x 2).val = (x 2).val; omega)
  unfold leave
  pointwise
  rw [e0, e1, e2]

end Cert.KernelIdeal.Attn

end
-- ==== Proof.AttnCases.lean ====
/- The attention kernel's body, opened: what the generated run of one grid point leaves in its output block and in the
   two scratch arrays is what AttnBody.lean states, at a sequence's first block and at every other. -/
module

public import proofs.«01_k».proof.Proof.AttnBody

@[expose] public section

set_option maxRecDepth 16384

noncomputable section

namespace Cert.KernelIdeal.Attn

open Cert.KernelIdeal Cert.KernelIdeal.Gen
open Idealize.ShloMosaic Idealize.ShloMosaic.TcCoe Idealize.SL.Sem

variable {F : FTy → Type} [FloatOps F]
variable (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1024 .bf16) (harg10 : arg10.IsWhole) (arg11 : Memref sig .tc .vmem S4x128x128 .bf16) (harg11 : arg11.IsWhole) (arg12 : Memref sig .tc .vmem S4x128x128 .bf16) (harg12 : arg12.IsWhole)
  (x0 : Vec F S16 .f32) (x1 : Vec F S128x1024 .bf16) (x2 : Vec F S128x256 .bf16) (x3 : Vec F S128x256 .bf16) (x4 : Vec F S128x128 .f32) (x5 : Vec F S128x128 .f32) (x6 : Vec F S1x128 .f32) (x7 : Vec F S1x128 .f32) (xs0 : Vec F S4x128x128 .bf16) (xs1 : Vec F S4x128x128 .bf16)

set_option maxHeartbeats 2000000 in

set_option maxHeartbeats 2000000 in

set_option maxHeartbeats 2000000 in
theorem out_B (hc0 : ¬cond0_0 i) : out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = outBlock (maskAt i) x0 x1 x2 x3 x4 x5 x6 x7 xs0 xs1 := by
  funext y
  unfold out0_B_8
  rw [View.read_writes_eq_canon _ _ _ (fun y => cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 y)]
  refine View.canon_apply_of_pieces _ _ (View.PiecesOf.mem ?_) y (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 y)
  unfold kernelRun0_B
  dsimp only
  sl_unfold_words
  simp (disch := decide) only [View.readAt_eq_ld, Memref.IsWhole.read_unread, View.ld_unit_lit']
  simp only [ld_q _ 0 _ 0 rfl, ld_q _ 128 _ 1 rfl, ld_q _ 256 _ 2 rfl, ld_q _ 384 _ 3 rfl, ld_q _ 512 _ 4 rfl, ld_q _ 640 _ 5 rfl, ld_q _ 768 _ 6 rfl, ld_q _ 896 _ 7 rfl, ld_k _ 0 _ 0 rfl, ld_k _ 128 _ 1 rfl, ld_s _ 0 _ 0 rfl, ld_s _ 1 _ 1 rfl, ld_s _ 2 _ 2 rfl, ld_s _ 3 _ 3 rfl]
  rw [ld_sink x0 0 inb_S16_S1_0 _ 0 rfl, ld_sink x0 1 inb_S16_S1_1 _ 1 rfl, ld_sink x0 2 inb_S16_S1_2 _ 2 rfl, ld_sink x0 3 inb_S16_S1_3 _ 3 rfl, ld_sink x0 4 inb_S16_S1_4 _ 4 rfl, ld_sink x0 5 inb_S16_S1_5 _ 5 rfl, ld_sink x0 6 inb_S16_S1_6 _ 6 rfl, ld_sink x0 7 inb_S16_S1_7 _ 7 rfl, ld_sink x0 8 inb_S16_S1_8 _ 8 rfl, ld_sink x0 9 inb_S16_S1_9 _ 9 rfl, ld_sink x0 10 inb_S16_S1_10 _ 10 rfl, ld_sink x0 11 inb_S16_S1_11 _ 11 rfl, ld_sink x0 12 inb_S16_S1_12 _ 12 rfl, ld_sink x0 13 inb_S16_S1_13 _ 13 rfl, ld_sink x0 14 inb_S16_S1_14 _ 14 rfl, ld_sink x0 15 inb_S16_S1_15 _ 15 rfl]
  refine ⟨fun x => Eq.trans (congrFun (by rfl) x) (outBlock_hi _ _ _ _ _ _ _ _ _ _ _ 896 inb_S128x1024_S128x128_0_896 3 rfl x).symm,
    fun x => Eq.trans (congrFun (by rfl) x) (outBlock_lo _ _ _ _ _ _ _ _ _ _ _ 768 inb_S128x1024_S128x128_0_768 3 rfl x).symm,
    fun x => Eq.trans (congrFun (by rfl) x) (outBlock_hi _ _ _ _ _ _ _ _ _ _ _ 640 inb_S128x1024_S128x128_0_640 2 rfl x).symm,
    fun x => Eq.trans (congrFun (by rfl) x) (outBlock_lo _ _ _ _ _ _ _ _ _ _ _ 512 inb_S128x1024_S128x128_0_512 2 rfl x).symm,
    fun x => Eq.trans (congrFun (by rfl) x) (outBlock_hi _ _ _ _ _ _ _ _ _ _ _ 384 inb_S128x1024_S128x128_0_384 1 rfl x).symm,
    fun x => Eq.trans (congrFun (by rfl) x) (outBlock_lo _ _ _ _ _ _ _ _ _ _ _ 256 inb_S128x1024_S128x128_0_256 1 rfl x).symm,
    fun x => Eq.trans (congrFun (by rfl) x) (outBlock_hi _ _ _ _ _ _ _ _ _ _ _ 128 inb_S128x1024_S128x128_0_128 0 rfl x).symm,
    fun x => Eq.trans (congrFun (by rfl) x) (outBlock_lo _ _ _ _ _ _ _ _ _ _ _ 0 inb_S128x1024_S128x128_0_0 0 rfl x).symm, trivial⟩

set_option maxHeartbeats 2000000 in
theorem left_B_0 (hc0 : ¬cond0_0 i) : sout0_B_0 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = leave (keyHead x2 x4 x5 x7) := by
  funext y
  unfold sout0_B_0
  rw [View.read_writes_eq_canon _ _ _ (fun y => scover0_B_0 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 y)]
  refine View.canon_apply_of_pieces _ _ (View.PiecesOf.mem ?_) y (scover0_B_0 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 y)
  unfold kernelRun0_B
  dsimp only
  sl_unfold_words
  simp (disch := decide) only [View.readAt_eq_ld, Memref.IsWhole.read_unread, View.ld_unit_lit']
  simp only [ld_q _ 0 _ 0 rfl, ld_q _ 128 _ 1 rfl, ld_q _ 256 _ 2 rfl, ld_q _ 384 _ 3 rfl, ld_q _ 512 _ 4 rfl, ld_q _ 640 _ 5 rfl, ld_q _ 768 _ 6 rfl, ld_q _ 896 _ 7 rfl, ld_k _ 0 _ 0 rfl, ld_k _ 128 _ 1 rfl, ld_s _ 0 _ 0 rfl, ld_s _ 1 _ 1 rfl, ld_s _ 2 _ 2 rfl, ld_s _ 3 _ 3 rfl]
  refine ⟨fun x => Eq.trans (by rfl) (leave_emb (keyHead x2 x4 x5 x7) 3 inb_S4x128x128_S1x128x128_3_0_0 3 rfl x).symm,
    fun x => Eq.trans (by rfl) (leave_emb (keyHead x2 x4 x5 x7) 2 inb_S4x128x128_S1x128x128_2_0_0 2 rfl x).symm,
    fun x => Eq.trans (by rfl) (leave_emb (keyHead x2 x4 x5 x7) 1 inb_S4x128x128_S1x128x128_1_0_0 1 rfl x).symm,
    fun x => Eq.trans (by rfl) (leave_emb (keyHead x2 x4 x5 x7) 0 inb_S4x128x128_S1x128x128_0_0_0 0 rfl x).symm, trivial⟩

set_option maxHeartbeats 2000000 in
theorem left_B_1 (hc0 : ¬cond0_0 i) : sout0_B_1 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = leave (valHead x3) := by
  funext y
  unfold sout0_B_1
  rw [View.read_writes_eq_canon _ _ _ (fun y => scover0_B_1 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 y)]
  refine View.canon_apply_of_pieces _ _ (View.PiecesOf.mem ?_) y (scover0_B_1 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 y)
  unfold kernelRun0_B
  dsimp only
  sl_unfold_words
  simp (disch := decide) only [View.readAt_eq_ld, Memref.IsWhole.read_unread, View.ld_unit_lit']
  simp only [ld_q _ 0 _ 0 rfl, ld_q _ 128 _ 1 rfl, ld_q _ 256 _ 2 rfl, ld_q _ 384 _ 3 rfl, ld_q _ 512 _ 4 rfl, ld_q _ 640 _ 5 rfl, ld_q _ 768 _ 6 rfl, ld_q _ 896 _ 7 rfl, ld_k _ 0 _ 0 rfl, ld_k _ 128 _ 1 rfl, ld_s _ 0 _ 0 rfl, ld_s _ 1 _ 1 rfl, ld_s _ 2 _ 2 rfl, ld_s _ 3 _ 3 rfl]
  refine ⟨fun x => Eq.trans (by rfl) (leave_emb (valHead x3) 3 inb_S4x128x128_S1x128x128_3_0_0 3 rfl x).symm,
    fun x => Eq.trans (by rfl) (leave_emb (valHead x3) 2 inb_S4x128x128_S1x128x128_2_0_0 2 rfl x).symm,
    fun x => Eq.trans (by rfl) (leave_emb (valHead x3) 1 inb_S4x128x128_S1x128x128_1_0_0 1 rfl x).symm,
    fun x => Eq.trans (by rfl) (leave_emb (valHead x3) 0 inb_S4x128x128_S1x128x128_0_0_0 0 rfl x).symm, trivial⟩

set_option maxHeartbeats 2000000 in
theorem out_A (hc0 : cond0_0 i) : out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = outBlock (maskAt i) x0 x1 x2 x3 x4 x5 x6 x7 noRows noRows := by
  funext y
  unfold out0_A_8
  rw [View.read_writes_eq_canon _ _ _ (fun y => cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7 y)]
  refine View.canon_apply_of_pieces _ _ (View.PiecesOf.mem ?_) y (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7 y)
  unfold kernelRun0_A
  dsimp only
  sl_unfold_words
  simp (disch := decide) only [View.readAt_eq_ld, Memref.IsWhole.read_unread, View.ld_unit_lit', ↓ View.readCov_skip, ↓ View.readCov_fill]
  simp only [ld_q _ 0 _ 0 rfl, ld_q _ 128 _ 1 rfl, ld_q _ 256 _ 2 rfl, ld_q _ 384 _ 3 rfl, ld_q _ 512 _ 4 rfl, ld_q _ 640 _ 5 rfl, ld_q _ 768 _ 6 rfl, ld_q _ 896 _ 7 rfl, ld_k _ 0 _ 0 rfl, ld_k _ 128 _ 1 rfl, ld_s _ 0 _ 0 rfl, ld_s _ 1 _ 1 rfl, ld_s _ 2 _ 2 rfl, ld_s _ 3 _ 3 rfl]
  rw [ld_sink x0 0 inb_S16_S1_0 _ 0 rfl, ld_sink x0 1 inb_S16_S1_1 _ 1 rfl, ld_sink x0 2 inb_S16_S1_2 _ 2 rfl, ld_sink x0 3 inb_S16_S1_3 _ 3 rfl, ld_sink x0 4 inb_S16_S1_4 _ 4 rfl, ld_sink x0 5 inb_S16_S1_5 _ 5 rfl, ld_sink x0 6 inb_S16_S1_6 _ 6 rfl, ld_sink x0 7 inb_S16_S1_7 _ 7 rfl, ld_sink x0 8 inb_S16_S1_8 _ 8 rfl, ld_sink x0 9 inb_S16_S1_9 _ 9 rfl, ld_sink x0 10 inb_S16_S1_10 _ 10 rfl, ld_sink x0 11 inb_S16_S1_11 _ 11 rfl, ld_sink x0 12 inb_S16_S1_12 _ 12 rfl, ld_sink x0 13 inb_S16_S1_13 _ 13 rfl, ld_sink x0 14 inb_S16_S1_14 _ 14 rfl, ld_sink x0 15 inb_S16_S1_15 _ 15 rfl]
  refine ⟨fun x => Eq.trans (congrFun (by rfl) x) (outBlock_hi _ _ _ _ _ _ _ _ _ _ _ 896 inb_S128x1024_S128x128_0_896 3 rfl x).symm,
    fun x => Eq.trans (congrFun (by rfl) x) (outBlock_lo _ _ _ _ _ _ _ _ _ _ _ 768 inb_S128x1024_S128x128_0_768 3 rfl x).symm,
    fun x => Eq.trans (congrFun (by rfl) x) (outBlock_hi _ _ _ _ _ _ _ _ _ _ _ 640 inb_S128x1024_S128x128_0_640 2 rfl x).symm,
    fun x => Eq.trans (congrFun (by rfl) x) (outBlock_lo _ _ _ _ _ _ _ _ _ _ _ 512 inb_S128x1024_S128x128_0_512 2 rfl x).symm,
    fun x => Eq.trans (congrFun (by rfl) x) (outBlock_hi _ _ _ _ _ _ _ _ _ _ _ 384 inb_S128x1024_S128x128_0_384 1 rfl x).symm,
    fun x => Eq.trans (congrFun (by rfl) x) (outBlock_lo _ _ _ _ _ _ _ _ _ _ _ 256 inb_S128x1024_S128x128_0_256 1 rfl x).symm,
    fun x => Eq.trans (congrFun (by rfl) x) (outBlock_hi _ _ _ _ _ _ _ _ _ _ _ 128 inb_S128x1024_S128x128_0_128 0 rfl x).symm,
    fun x => Eq.trans (congrFun (by rfl) x) (outBlock_lo _ _ _ _ _ _ _ _ _ _ _ 0 inb_S128x1024_S128x128_0_0 0 rfl x).symm, trivial⟩

set_option maxHeartbeats 2000000 in
theorem left_A_0 (hc0 : cond0_0 i) : sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = leave (keyHead x2 x4 x5 x7) := by
  funext y
  unfold sout0_A_0
  rw [View.read_writes_eq_canon _ _ _ (fun y => scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 y)]
  unfold kernelRun0_A
  dsimp only
  sl_unfold_words
  simp (disch := decide) only [View.readAt_eq_ld, Memref.IsWhole.read_unread, View.ld_unit_lit', ↓ View.readCov_skip, ↓ View.readCov_fill]
  simp only [ld_q _ 0 _ 0 rfl, ld_q _ 128 _ 1 rfl, ld_q _ 256 _ 2 rfl, ld_q _ 384 _ 3 rfl, ld_q _ 512 _ 4 rfl, ld_q _ 640 _ 5 rfl, ld_q _ 768 _ 6 rfl, ld_q _ 896 _ 7 rfl, ld_k _ 0 _ 0 rfl, ld_k _ 128 _ 1 rfl, ld_s _ 0 _ 0 rfl, ld_s _ 1 _ 1 rfl, ld_s _ 2 _ 2 rfl, ld_s _ 3 _ 3 rfl]
  refine View.canon_append_of_piecesOf _ [_] [_, _, _, _] ⟨fun x => Eq.trans (by rfl) (leave_emb (keyHead x2 x4 x5 x7) 3 inb_S4x128x128_S1x128x128_3_0_0 3 rfl x).symm,
    fun x => Eq.trans (by rfl) (leave_emb (keyHead x2 x4 x5 x7) 2 inb_S4x128x128_S1x128x128_2_0_0 2 rfl x).symm,
    fun x => Eq.trans (by rfl) (leave_emb (keyHead x2 x4 x5 x7) 1 inb_S4x128x128_S1x128x128_1_0_0 1 rfl x).symm,
    fun x => Eq.trans (by rfl) (leave_emb (keyHead x2 x4 x5 x7) 0 inb_S4x128x128_S1x128x128_0_0_0 0 rfl x).symm, trivial⟩ y ?_
  exact View.cover_of_tiledL (s := S4x128x128) _ S1x128x128.size (by sl_kernel_rfl) y

set_option maxHeartbeats 2000000 in
theorem left_A_1 (hc0 : cond0_0 i) : sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7 = leave (valHead x3) := by
  funext y
  unfold sout0_A_1
  rw [View.read_writes_eq_canon _ _ _ (fun y => scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7 y)]
  unfold kernelRun0_A
  dsimp only
  sl_unfold_words
  simp (disch := decide) only [View.readAt_eq_ld, Memref.IsWhole.read_unread, View.ld_unit_lit', ↓ View.readCov_skip, ↓ View.readCov_fill]
  simp only [ld_q _ 0 _ 0 rfl, ld_q _ 128 _ 1 rfl, ld_q _ 256 _ 2 rfl, ld_q _ 384 _ 3 rfl, ld_q _ 512 _ 4 rfl, ld_q _ 640 _ 5 rfl, ld_q _ 768 _ 6 rfl, ld_q _ 896 _ 7 rfl, ld_k _ 0 _ 0 rfl, ld_k _ 128 _ 1 rfl, ld_s _ 0 _ 0 rfl, ld_s _ 1 _ 1 rfl, ld_s _ 2 _ 2 rfl, ld_s _ 3 _ 3 rfl]
  refine View.canon_append_of_piecesOf _ [_] [_, _, _, _] ⟨fun x => Eq.trans (by rfl) (leave_emb (valHead x3) 3 inb_S4x128x128_S1x128x128_3_0_0 3 rfl x).symm,
    fun x => Eq.trans (by rfl) (leave_emb (valHead x3) 2 inb_S4x128x128_S1x128x128_2_0_0 2 rfl x).symm,
    fun x => Eq.trans (by rfl) (leave_emb (valHead x3) 1 inb_S4x128x128_S1x128x128_1_0_0 1 rfl x).symm,
    fun x => Eq.trans (by rfl) (leave_emb (valHead x3) 0 inb_S4x128x128_S1x128x128_0_0_0 0 rfl x).symm, trivial⟩ y ?_
  exact View.cover_of_tiledL (s := S4x128x128) _ S1x128x128.size (by sl_kernel_rfl) y

end Cert.KernelIdeal.Attn

end
-- ==== Proof.AttnPoints.lean ====
/- What the attention kernel's output array holds after the run, point by point: a point's block of rows is the body's
   closed form of the blocks the point reads and of the keys and values that the point before it left. -/
module

public import proofs.«01_k».proof.Proof.AttnCases

@[expose] public section

noncomputable section

namespace Cert.KernelIdeal.Attn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD)

/-- The point before a point. -/
def before (t : Fin cfg0.N) : Fin cfg0.N := ⟨t.val - 1, Nat.lt_of_le_of_lt (Nat.sub_le _ _) t.isLt⟩

/-- The keys that a point leaves. -/
def keysOf (t : Fin cfg0.N) : Vec F S4x128x128 .bf16 := leave (keyHead (iblk m c 2 t) (iblk m c 4 t) (iblk m c 5 t) (iblk m c 7 t))

/-- The values that a point leaves. -/
def valsOf (t : Fin cfg0.N) : Vec F S4x128x128 .bf16 := leave (valHead (iblk m c 3 t))

/-- The scratch arrays after a point are the point's own keys and values. -/
theorem left_at (t : Fin cfg0.N) : (outsAt0 m c t.val t.isLt).2 = (keysOf m c t, valsOf m c t) := by
  by_cases h0 : t.val % 16 = 0
  · rw [outsAt0_A m c t h0]
    dsimp only
    rw [left_A_0, left_A_1]; rfl
  · rw [outsAt0_B m c t h0]
    dsimp only
    rw [left_B_0, left_B_1]; rfl

/-- The output block after a point. -/
theorem out_at (t : Fin cfg0.N) : (outsAt0 m c t.val t.isLt).1 =
    outBlock (maskAt (grid0.coords t)) (iblk m c 0 t) (iblk m c 1 t) (iblk m c 2 t) (iblk m c 3 t) (iblk m c 4 t) (iblk m c 5 t) (iblk m c 6 t) (iblk m c 7 t)
      (if t.val % 16 = 0 then noRows else keysOf m c (before t)) (if t.val % 16 = 0 then noRows else valsOf m c (before t)) := by
  by_cases h0 : t.val % 16 = 0
  · rw [outsAt0_A m c t h0, if_pos h0, if_pos h0]
    dsimp only
    rw [out_A]
  · rw [outsAt0_B m c t h0, if_neg h0, if_neg h0, show keysOf m c (before t) = (outsAt0 m c (t.val - 1) (Nat.lt_of_le_of_lt (Nat.sub_le _ _) t.isLt)).2.1 from (congrArg Prod.fst (left_at m c (before t))).symm,
      show valsOf m c (before t) = (outsAt0 m c (t.val - 1) (Nat.lt_of_le_of_lt (Nat.sub_le _ _) t.isLt)).2.2 from (congrArg Prod.snd (left_at m c (before t))).symm]
    dsimp only
    rw [out_B]

/-- The point that holds row `R` of the output. -/
def ptOf (R : Fin 16384) : Fin cfg0.N := ⟨R.val / 128, by show R.val / 128 < 128; omega⟩

/-- An element of the output array after the run. -/
theorem result_at (R : Fin 16384) (C : Fin 1024) : Value.G8 m c (ix2 R C) =
    outBlock (maskAt (grid0.coords (ptOf R))) (iblk m c 0 (ptOf R)) (iblk m c 1 (ptOf R)) (iblk m c 2 (ptOf R)) (iblk m c 3 (ptOf R)) (iblk m c 4 (ptOf R)) (iblk m c 5 (ptOf R)) (iblk m c 6 (ptOf R)) (iblk m c 7 (ptOf R))
      (if (ptOf R).val % 16 = 0 then noRows else keysOf m c (before (ptOf R))) (if (ptOf R).val % 16 = 0 then noRows else valsOf m c (before (ptOf R)))
      (ix2 ⟨R.val % 128, Nat.mod_lt _ (by decide)⟩ C) := by
  have hp : Value.pt8Of (ix2 R C) = (ptOf R).val := by
    have hC : C.val < 1024 := C.isLt
    show 1 * (R.val / 128 - 0) + 1 * (C.val / 1024 - 0) = R.val / 128
    omega
  have hl : Value.loc8Of (ix2 R C) = ix2 ⟨R.val % 128, Nat.mod_lt _ (by decide)⟩ C := by
    funext a; apply Fin.ext
    match a with
    | ⟨0, _⟩ => rfl
    | ⟨1, _⟩ => show C.val % 1024 = C.val; omega
  unfold Value.G8
  rw [dif_pos (by rw [hp]; exact (ptOf R).isLt)]
  rw [← out_at, hl]
  have key : ∀ (n : ℕ) (hn : n < cfg0.N), n = (ptOf R).val →
      (Pipeline.accAt (fun n h => Value.stAt0 m c n h Value.junk0) (Value.stAt0 m c) 0 n (by omega)).1 = (outsAt0 m c (ptOf R).val (ptOf R).isLt).1 := by
    intro n hn e; subst e; rw [← Value.outsAt0_sweep]
  exact congrFun (key _ (by rw [hp]; exact (ptOf R).isLt) hp) _

end Cert.KernelIdeal.Attn

end
-- ==== Proof.AttnSpec.lean ====
/- Sliding-window attention with sinks, in sums of extended reals: what both programs compute. -/
module

public import Idealize.ShloMosaic.PureOps.Ideal.Laws
public import Idealize.ShloMosaic.Lib.ValueIdx

@[expose] public section

noncomputable section

namespace Cert.Attn

open Idealize.ShloMosaic

/-- A head divided by its root mean square, times the gain. -/
def headNorm (g x : Fin 64 → EReal) (d : Fin 64) : EReal :=
  x d * Ideal.rsqrt ((∑ e, x e * x e) * Ideal.ofBits .f32 0x3C800000#32 + Ideal.ofBits .f32 0x358637BD#32) * g d

/-- The rotary embedding of a head: the two halves of the lanes are the two coordinates that turn. -/
def headRope (cos sin : Fin 32 → EReal) (y : Fin 64 → EReal) (d : Fin 64) : EReal :=
  if h : d.val < 32 then y d * cos ⟨d.val, h⟩ - y ⟨d.val + 32, by omega⟩ * sin ⟨d.val, h⟩
  else y d * cos ⟨d.val - 32, by omega⟩ + y ⟨d.val - 32, by omega⟩ * sin ⟨d.val - 32, by omega⟩

/-- Row `r` of a block of queries sees key `k` of the window: no later than the row, no more than 128 behind it, and in
    a sequence's first block no key of the block before. -/
def sees (first : Prop) (r k : ℕ) : Prop := r < k ∧ k ≤ r + 128 ∧ (first → 127 < k)

instance (first : Prop) [Decidable first] (r k : ℕ) : Decidable (sees first r k) := by unfold sees; infer_instance

/-- The rows of the block before, then the rows of this block. -/
def window (p x : Fin 128 → Fin 64 → EReal) (k : Fin 256) (d : Fin 64) : EReal :=
  if h : k.val < 128 then p ⟨k.val, h⟩ d else x ⟨k.val - 128, by omega⟩ d

/-- Row `r`'s scores, minus infinity at the keys it doesn't see. -/
def rowScores (first : Prop) [Decidable first] (r : ℕ) (q : Fin 64 → EReal) (kw : Fin 256 → Fin 64 → EReal) (k : Fin 256) : EReal :=
  if sees first r k.val then ∑ d, q d * Ideal.ofBits .f32 0x3E000000#32 * kw k d else ⊥

theorem rowScores_congr {p p' : Prop} [Decidable p] [Decidable p'] (h : p ↔ p') (r : ℕ) (q : Fin 64 → EReal) (kw : Fin 256 → Fin 64 → EReal) :
    rowScores p r q kw = rowScores p' r q kw := by
  funext k
  unfold rowScores
  exact if_congr (by unfold sees; rw [h]) rfl rfl

/-- A row's largest score or its sink, whichever is larger. -/
def rowTop (s : Fin 256 → EReal) (t : EReal) : EReal := max (Finset.univ.fold max ⊥ s) t

/-- The sum of a row's exponentials, the sink's among them. -/
def rowSum (s : Fin 256 → EReal) (t : EReal) : EReal := (∑ k, Ideal.exp (s k - rowTop s t)) + Ideal.exp (t - rowTop s t)

/-- A row's weighted values, divided by the sum of the weights. -/
def rowOut (s : Fin 256 → EReal) (t : EReal) (v : Fin 256 → EReal) : EReal :=
  Ideal.div (∑ k, Ideal.exp (s k - rowTop s t) * v k) (rowSum s t)

/-! ## The layer -/

/-- The rotary angle of position `s` at coordinate pair `e`. -/
def angle (s e : ℕ) : EReal :=
  FloatOps.sitofp (F := Ideal) .f32 (BitVec.ofNat 32 s) *
    Ideal.pow (Ideal.ofBits .f32 0x461C4000#32) (Ideal.div (-(Ideal.ofBits .f32 0x40000000#32 * FloatOps.sitofp (F := Ideal) .f32 (BitVec.ofNat 32 e))) (Ideal.ofBits .f32 0x42800000#32))

def cosAt (s : Fin 2048) (e : Fin 32) : EReal := Ideal.cos (angle s.val e.val)

def sinAt (s : Fin 2048) (e : Fin 32) : EReal := Ideal.sin (angle s.val e.val)

/-- The projection: batch, position, column. -/
abbrev Proj := Fin 8 → Fin 2048 → Fin 4112 → EReal

variable (X : Proj) (qn kn : Fin 64 → EReal) (sk : Fin 16 → EReal)

/-- Query head `H` at a position. -/
def qHead (b : Fin 8) (s : Fin 2048) (H : Fin 16) : Fin 64 → EReal :=
  headRope (cosAt s) (sinAt s) (headNorm qn fun e => X b s ⟨64 * H.val + e.val, by omega⟩)

/-- Key head `g` at a position. -/
def kHead (b : Fin 8) (s : Fin 2048) (g : Fin 4) : Fin 64 → EReal :=
  headRope (cosAt s) (sinAt s) (headNorm kn fun e => X b s ⟨1024 + 64 * g.val + e.val, by omega⟩)

/-- Value head `g` at a position. -/
def vHead (b : Fin 8) (s : Fin 2048) (g : Fin 4) (d : Fin 64) : EReal := X b s ⟨1280 + 64 * g.val + d.val, by omega⟩

/-- Row `r` of block `n` of a sequence. -/
def pos (n : Fin 16) (r : Fin 128) : Fin 2048 := ⟨128 * n.val + r.val, by omega⟩

/-- The rows of block `n`, after the rows of the block before or zeros where there is none. -/
def blocks (f : Fin 2048 → Fin 64 → EReal) (n : Fin 16) : Fin 256 → Fin 64 → EReal :=
  window (fun r d => if n.val = 0 then 0 else f (pos ⟨n.val - 1, by omega⟩ r) d) fun r => f (pos n r)

/-- The group of heads that share the keys and values of head `H`. -/
def groupOf (H : Fin 16) : Fin 4 := ⟨H.val / 4, by omega⟩

/-- The scores of head `H` at row `r` of block `n`. -/
def scoreRow (b : Fin 8) (n : Fin 16) (r : Fin 128) (H : Fin 16) : Fin 256 → EReal :=
  rowScores (n.val = 0) r.val (qHead X qn b (pos n r) H) (blocks (fun s => kHead X kn b s (groupOf H)) n)

/-- The values that head `H` weighs at lane `d` of block `n`. -/
def valueRow (b : Fin 8) (n : Fin 16) (H : Fin 16) (d : Fin 64) (k : Fin 256) : EReal :=
  blocks (fun s => vHead X b s (groupOf H)) n k d

end Cert.Attn

end
-- ==== Proof.AttnIdeal.lean ====
/- The attention kernel's body over the extended reals, read at an index. -/
module

public import proofs.«01_k».proof.Proof.AttnPoints
public import proofs.«01_k».proof.Proof.AttnSpec

@[expose] public section

noncomputable section

namespace Cert.KernelIdeal.Attn

open Cert.KernelIdeal Cert.KernelIdeal.Gen
open Idealize.ShloMosaic Idealize.ShloMosaic.TcCoe Idealize.SL.Sem

theorem lowMask_apply (r l : Fin 128) : lowMask (ix2 r l) = if l.val < 64 then 1#1 else 0#1 := by
  unfold lowMask laneMod
  pointwise
  revert l
  decide +kernel

theorem halfMask_apply (r l : Fin 128) : halfMask (ix2 r l) = if l.val % 64 < 32 then 1#1 else 0#1 := by
  unfold halfMask laneMod
  pointwise
  revert l
  decide +kernel

/-- Lane `d` of head `h` of a pair. -/
def lane (h : Fin 2) (d : Fin 64) : Fin 128 := ⟨64 * h.val + d.val, by omega⟩

theorem lowMask_lane (r : Fin 128) (h : Fin 2) (d : Fin 64) : lowMask (ix2 r (lane h d)) = if h = 0 then 1#1 else 0#1 := by
  rw [lowMask_apply]
  have e : (lane h d).val = 64 * h.val + d.val := rfl
  rcases Fin.exists_fin_two.mp ⟨h, rfl⟩ with rfl | rfl
  · rw [if_pos (by rw [e]; show 64 * 0 + d.val < 64; omega), if_pos rfl]
  · rw [if_neg (by rw [e]; show ¬ 64 * 1 + d.val < 64; omega), if_neg (by decide)]

theorem halfMask_lane (r : Fin 128) (h : Fin 2) (d : Fin 64) : halfMask (ix2 r (lane h d)) = if d.val < 32 then 1#1 else 0#1 := by
  rw [halfMask_apply, show (lane h d).val % 64 = d.val from by show (64 * h.val + d.val) % 64 = d.val; omega]

/-- A sum over the lanes of a pair is the two heads' sums. -/
theorem sum_lanes (f : Fin 128 → EReal) : ∑ l, f l = (∑ d, f (lane 0 d)) + ∑ d, f (lane 1 d) := by
  rw [show (∑ l, f l) = _ from Fin.sum_univ_add (a := 64) (b := 64) f]
  congr 1

theorem row_in_head (r : Fin 512) : (let d : BitVec 32 := Scalar.select (Scalar.cmpi .eq 128#32 0#32) 1#32 128#32
    let q := IntOp.remsi ArithUnit.vector (BitVec.ofNat 32 r.val) d
    Scalar.select (IntOp.andi (IntOp.xori (IntOp.cmpi .slt q 0#32) (Scalar.cmpi .slt d 0#32)) (IntOp.cmpi .ne q 0#32)) (IntOp.addi q d) q)
      = BitVec.ofNat 32 (r.val % 128) := by
  revert r
  decide +kernel

theorem and_three (p q s : Prop) [Decidable p] [Decidable q] [Decidable s] :
    IntOp.andi (IntOp.andi (BitVec.ofBool (decide p)) (BitVec.ofBool (decide q))) (BitVec.ofBool (decide s)) = if p ∧ q ∧ s then 1#1 else 0#1 := by
  by_cases hp : p <;> by_cases hq : q <;> by_cases hs : s <;> simp [hp, hq, hs, IntOp.andi]

theorem maskAt_apply (i : grid0.Coords) (r : Fin 512) (k : Fin 256) :
    maskAt i (ix2 r k) = if Attn.sees ((i 1).val = 0) (r.val % 128) k.val then 1#1 else 0#1 := by
  have hi : (i 1).val < 16 := (i 1).isLt
  have hk : k.val < 256 := k.isLt
  have hr : r.val % 128 < 128 := Nat.mod_lt _ (by decide)
  unfold maskAt k0_pay10 k0_pay8 k0_pay9
  pointwise
  rw [show _ = _ from row_in_head r]
  generalize r.val % 128 = a at *
  generalize k.val = b at *
  generalize (i 1).val = n at *
  have e1 : Scalar.select (Scalar.cmpi .eq (BitVec.ofNat 32 n) 0#32) 127#32 0#32 = BitVec.ofNat 32 (if n = 0 then 127 else 0) := by
    interval_cases n <;> decide
  have e2 : IntOp.addi (BitVec.ofNat 32 a) 128#32 = BitVec.ofNat 32 (a + 128) := (BitVec.ofNat_add a 128).symm
  have hn : (if n = 0 then 127 else 0) < 2 ^ 31 := by split <;> decide
  rw [e1, e2, WordCmp.cmpi_sgt_ofNat (by omega) (by omega), WordCmp.cmpi_sle_ofNat (by omega) (by omega), WordCmp.cmpi_sgt_ofNat (by omega) hn]
  unfold Attn.sees
  rw [and_three]
  refine if_congr ⟨fun h => ⟨h.1, h.2.1, fun h0 => by simpa [h0] using h.2.2⟩, fun h => ⟨h.1, h.2.1, ?_⟩⟩ rfl rfl
  split
  · exact h.2.2 ‹_›
  · omega

theorem headSums_lane (x : FVec Ideal S128x128 .f32) (r : Fin 128) (h : Fin 2) (d : Fin 64) :
    headSums x (ix2 r (lane h d)) = ∑ e, x (ix2 r (lane h e)) := by
  unfold headSums
  pointwise
  rw [lowMask_lane, sum_lanes, sum_lanes]
  simp only [lowMask_lane]
  rcases Fin.exists_fin_two.mp ⟨h, rfl⟩ with rfl | rfl
  · simp [Scalar.select]
  · simp [Scalar.select]

theorem normed_lane (g : Vec Ideal S1x128 .f32) (x : FVec Ideal S128x128 .f32) (r : Fin 128) (h : Fin 2) (d : Fin 64) :
    normed g x (ix2 r (lane h d)) = Attn.headNorm (fun e => g (ix2 0 (lane h e))) (fun e => x (ix2 r (lane h e))) d := by
  unfold normed
  pointwise
  rw [headSums_lane]
  rfl

theorem roped_lane (cos sin : Vec Ideal S128x128 .f32) (x : FVec Ideal S128x128 .f32) (r : Fin 128) (h : Fin 2) (C S : Fin 32 → EReal)
    (hc : ∀ l : Fin 128, cos (ix2 r l) = C ⟨l.val % 32, Nat.mod_lt _ (by decide)⟩)
    (hs : ∀ l : Fin 128, sin (ix2 r l) = if l.val % 64 < 32 then -S ⟨l.val % 32, Nat.mod_lt _ (by decide)⟩ else S ⟨l.val % 32, Nat.mod_lt _ (by decide)⟩) (d : Fin 64) :
    roped cos sin x (ix2 r (lane h d)) = Attn.headRope C S (fun e => x (ix2 r (lane h e))) d := by
  have e : (lane h d).val = 64 * h.val + d.val := rfl
  unfold roped
  pointwise
  rw [halfMask_lane, hc, hs]
  unfold Attn.headRope
  by_cases hd : d.val < 32
  · rw [if_pos hd, if_pos (by rw [e]; omega), dif_pos hd]
    simp only [Scalar.select]
    rw [mul_neg, ← sub_eq_add_neg]
    have a1 : (⟨(lane h d).val % 32, Nat.mod_lt _ (by decide)⟩ : Fin 32) = ⟨d.val, hd⟩ := Fin.ext (by show (64 * h.val + d.val) % 32 = d.val; omega)
    have a2 : (⟨((lane h d).val + 128 - 96) % 128, Nat.mod_lt _ (by decide)⟩ : Fin 128) = lane h ⟨d.val + 32, by omega⟩ :=
      Fin.ext (by show (64 * h.val + d.val + 128 - 96) % 128 = 64 * h.val + (d.val + 32); omega)
    rw [a1, a2]; rfl
  · rw [if_neg hd, if_neg (by rw [e]; omega), dif_neg hd]
    simp only [Scalar.select]
    have a1 : (⟨(lane h d).val % 32, Nat.mod_lt _ (by decide)⟩ : Fin 32) = ⟨d.val - 32, by omega⟩ := Fin.ext (by show (64 * h.val + d.val) % 32 = d.val - 32; omega)
    have a2 : (⟨((lane h d).val + 128 - 32) % 128, Nat.mod_lt _ (by decide)⟩ : Fin 128) = lane h ⟨d.val - 32, by omega⟩ :=
      Fin.ext (by show (64 * h.val + d.val + 128 - 32) % 128 = 64 * h.val + (d.val - 32); omega)
    rw [a1, a2]; rfl

theorem fin2 (h : Fin 2) : h = 0 ∨ h = 1 := by revert h; decide

theorem dupLo_lane (x : FVec Ideal S128x128 .f32) (r : Fin 128) (h : Fin 2) (d : Fin 64) : dupLo x (ix2 r (lane h d)) = x (ix2 r (lane 0 d)) := by
  unfold dupLo
  pointwise
  rw [lowMask_lane]
  rcases fin2 h with rfl | rfl
  · rfl
  · exact congrArg (fun l => x (ix2 r l)) (Fin.ext (by show (64 * 1 + d.val + 128 - 64) % 128 = 64 * 0 + d.val; omega))

theorem dupHi_lane (x : FVec Ideal S128x128 .f32) (r : Fin 128) (h : Fin 2) (d : Fin 64) : dupHi x (ix2 r (lane h d)) = x (ix2 r (lane 1 d)) := by
  unfold dupHi
  pointwise
  rw [lowMask_lane]
  rcases fin2 h with rfl | rfl
  · exact congrArg (fun l => x (ix2 r l)) (Fin.ext (by show (64 * 0 + d.val + 128 - 64) % 128 = 64 * 1 + d.val; omega))
  · rfl

section
variable (g : Vec Ideal S1x128 .f32) (cos sin : Vec Ideal S128x128 .f32) (x : Vec Ideal S128x128 .bf16)
  (C S : Fin 128 → Fin 32 → EReal) (G : Fin 64 → EReal)
  (hc : ∀ r l : Fin 128, cos (ix2 r l) = C r ⟨l.val % 32, Nat.mod_lt _ (by decide)⟩)
  (hs : ∀ r l : Fin 128, sin (ix2 r l) = if l.val % 64 < 32 then -S r ⟨l.val % 32, Nat.mod_lt _ (by decide)⟩ else S r ⟨l.val % 32, Nat.mod_lt _ (by decide)⟩)
  (hg : ∀ (h : Fin 2) (e : Fin 64), g (ix2 0 (lane h e)) = G e)
include hc hs hg

theorem normRope_lane (r : Fin 128) (h : Fin 2) (d : Fin 64) :
    normRope g cos sin x (ix2 r (lane h d)) = Attn.headRope (C r) (S r) (Attn.headNorm G fun e => x (ix2 r (lane h e))) d := by
  unfold normRope
  rw [roped_lane _ _ _ _ _ _ _ (hc r) (hs r)]
  simp only [normed_lane, hg]
  congr 2
  funext e
  pointwise

/-- A scaled query at its head's lanes, zero at the other head's. -/
theorem queryRows_lane (a : Fin 2) (r : Fin 128) (R : Fin 256) (hR : R.val = 128 * a.val + r.val) (h : Fin 2) (d : Fin 64) :
    queryRows g cos sin x (ix2 R (lane h d)) =
      if a = h then Attn.headRope (C r) (S r) (Attn.headNorm G fun e => x (ix2 r (lane h e))) d * Ideal.ofBits .f32 0x3E000000#32 else 0 := by
  have key := normRope_lane g cos sin x C S G hc hs hg r h d
  unfold queryRows
  pointwise
  rcases fin2 a with rfl | rfl
  · rw [dif_pos (by omega), show (⟨R.val, by omega⟩ : Fin 128) = r from Fin.ext (by simpa using hR), lowMask_lane, key]
    rcases fin2 h with rfl | rfl <;> rfl
  · rw [dif_neg (by simp at hR; omega), show (⟨R.val - 128, by omega⟩ : Fin 128) = r from Fin.ext (by simp at hR ⊢; omega), lowMask_lane, key]
    rcases fin2 h with rfl | rfl <;> rfl

end

/-- A score is the sum over the query's own lanes: the zeros at the other head's lanes leave nothing of theirs. -/
theorem scores_apply (q : Fin 2 → FVec Ideal S256x128 .bf16) (k : FVec Ideal S256x128 .bf16) (ρ : Fin 4) (r : Fin 128) (R : Fin 512) (hR : R.val = 128 * ρ.val + r.val) (j : Fin 256)
    (Q K : Fin 64 → EReal) (hq : ∀ (h : Fin 2) (d : Fin 64), q ⟨ρ.val / 2, by omega⟩ (ix2 ⟨128 * (ρ.val % 2) + r.val, by omega⟩ (lane h d)) = if ρ.val % 2 = h.val then Q d else 0)
    (hk : ∀ (h : Fin 2) (d : Fin 64), k (ix2 j (lane h d)) = K d) :
    scores (q 0) (q 1) k (ix2 R j) = ∑ d, Q d * K d := by
  unfold scores
  pointwise
  have e : ∀ l : Fin 128, (if h : R.val < 256 then q 0 (ix2 ⟨R.val, h⟩ l) else q 1 (ix2 ⟨R.val - 256, by omega⟩ l)) = q ⟨ρ.val / 2, by omega⟩ (ix2 ⟨128 * (ρ.val % 2) + r.val, by omega⟩ l) := by
    intro l
    by_cases h : R.val < 256
    · rw [dif_pos h, show (⟨ρ.val / 2, by omega⟩ : Fin 2) = 0 from Fin.ext (by show ρ.val / 2 = 0; omega)]
      exact congrArg (fun a => q 0 (ix2 a l)) (Fin.ext (by show R.val = 128 * (ρ.val % 2) + r.val; omega))
    · rw [dif_neg h, show (⟨ρ.val / 2, by omega⟩ : Fin 2) = 1 from Fin.ext (by show ρ.val / 2 = 1; omega)]
      exact congrArg (fun a => q 1 (ix2 a l)) (Fin.ext (by show R.val - 256 = 128 * (ρ.val % 2) + r.val; omega))
  simp only [e]
  rw [sum_lanes]
  simp only [hq, hk]
  rcases Nat.mod_two_eq_zero_or_one ρ.val with h | h <;> simp [h]

theorem withPrev_apply (p : Vec Ideal S1x128x128 .bf16) (x : FVec Ideal S128x128 .bf16) (k : Fin 256) (l : Fin 128) :
    withPrev p x (ix2 k l) = if h : k.val < 128 then p (ix3 0 ⟨k.val, h⟩ l) else x (ix2 ⟨k.val - 128, by omega⟩ l) := by
  unfold withPrev
  pointwise

theorem neg_inf : Ideal.ofBits .f32 0xFF800000#32 = ⊥ := by simp [Ideal.ofBits, Ideal.ieee]

theorem attend_apply (mask : IVec S512x256 1) (s : FVec Ideal S512x256 .f32) (sink : FVec Ideal S512x1 .f32) (v : FVec Ideal S256x128 .bf16) (r : Fin 512) (l : Fin 128)
    (s' : Fin 256 → EReal) (hs : ∀ k, Scalar.select (mask (ix2 r k)) (s (ix2 r k)) (⊥ : EReal) = s' k) (t : EReal) (ht : sink (ix2 r 0) = t) (v' : Fin 256 → EReal) (hv : ∀ k, v (ix2 k l) = v' k) :
    attend mask s sink v (ix2 r l) = Attn.rowOut s' t v' := by
  unfold attend rowDenom weights rowMax masked
  pointwise
  simp only [neg_inf, hs, ht, hv]
  rfl

theorem fin4 (h : Fin 4) : h = 0 ∨ h = 1 ∨ h = 2 ∨ h = 3 := by revert h; decide

theorem sinkCol_apply (s : Fin 4 → EReal) (ρ : Fin 4) (r : Fin 128) (R : Fin 512) (hR : R.val = 128 * ρ.val + r.val) :
    sinkCol (F := Ideal) s (ix2 R 0) = s ρ := by
  unfold sinkCol
  pointwise
  rcases fin4 ρ with rfl | rfl | rfl | rfl
  · rw [dif_pos (by simp at hR; omega)]
  · rw [dif_neg (by simp at hR; omega), dif_pos (by simp at hR; omega)]
  · rw [dif_neg (by simp at hR; omega), dif_neg (by simp at hR; omega), dif_pos (by simp at hR; omega)]
  · rw [dif_neg (by simp at hR; omega), dif_neg (by simp at hR; omega), dif_neg (by simp at hR; omega)]

section
variable (i : grid0.Coords) (x0 : Vec Ideal S16 .f32) (x1 : Vec Ideal S128x1024 .bf16) (x2 x3 : Vec Ideal S128x256 .bf16) (x4 x5 : Vec Ideal S128x128 .f32) (x6 x7 : Vec Ideal S1x128 .f32)
  (xs0 xs1 : Vec Ideal S4x128x128 .bf16) (C S : Fin 128 → Fin 32 → EReal) (Gq Gk : Fin 64 → EReal) (KP VP : Fin 4 → Fin 128 → Fin 64 → EReal)

/-- Query head `H` of the point's row `r`. -/
def qRow (H : Fin 16) (r : Fin 128) : Fin 64 → EReal :=
  Attn.headRope (C r) (S r) (Attn.headNorm Gq fun e => x1 (ix2 r ⟨64 * H.val + e.val, by omega⟩))

/-- Key head `g` of the point's row `r`. -/
def kRow (g : Fin 4) (r : Fin 128) : Fin 64 → EReal :=
  Attn.headRope (C r) (S r) (Attn.headNorm Gk fun e => x2 (ix2 r ⟨64 * g.val + e.val, by omega⟩))

/-- Value head `g` of the point's row `r`. -/
def vRow (g : Fin 4) (r : Fin 128) : Fin 64 → EReal := fun d => x3 (ix2 r ⟨64 * g.val + d.val, by omega⟩)

theorem valHead_lane (g : Fin 4) (r : Fin 128) (h : Fin 2) (d : Fin 64) : valHead x3 g (ix2 r (lane h d)) = vRow x3 g r d := by
  unfold valHead vRow
  split
  · rw [dupLo_lane]
    unfold kCol
    pointwise
    exact congrArg (fun l => x3 (ix2 r l)) (Fin.ext (by show 128 * (g.val / 2) + (64 * 0 + d.val) = 64 * g.val + d.val; omega))
  · rw [dupHi_lane]
    unfold kCol
    pointwise
    exact congrArg (fun l => x3 (ix2 r l)) (Fin.ext (by show 128 * (g.val / 2) + (64 * 1 + d.val) = 64 * g.val + d.val; omega))

variable (hc : ∀ r l : Fin 128, x4 (ix2 r l) = C r ⟨l.val % 32, Nat.mod_lt _ (by decide)⟩)
  (hs : ∀ r l : Fin 128, x5 (ix2 r l) = if l.val % 64 < 32 then -S r ⟨l.val % 32, Nat.mod_lt _ (by decide)⟩ else S r ⟨l.val % 32, Nat.mod_lt _ (by decide)⟩)
  (hq : ∀ (h : Fin 2) (e : Fin 64), x6 (ix2 0 (lane h e)) = Gq e) (hk : ∀ (h : Fin 2) (e : Fin 64), x7 (ix2 0 (lane h e)) = Gk e)
  (hkp : ∀ (g : Fin 4) (r : Fin 128) (h : Fin 2) (d : Fin 64), xs0 (ix3 g r (lane h d)) = KP g r d)
  (hvp : ∀ (g : Fin 4) (r : Fin 128) (h : Fin 2) (d : Fin 64), xs1 (ix3 g r (lane h d)) = VP g r d)

include hc hs hk in
theorem keyHead_lane (g : Fin 4) (r : Fin 128) (h : Fin 2) (d : Fin 64) : keyHead x2 x4 x5 x7 g (ix2 r (lane h d)) = kRow x2 C S Gk g r d := by
  unfold keyHead kRow
  split
  · rw [dupLo_lane, normRope_lane _ _ _ _ _ _ _ hc hs hk]
    unfold kCol
    refine congrFun (congrArg (fun f => Attn.headRope (C r) (S r) (Attn.headNorm Gk f)) (funext fun e => ?_)) d
    exact congrArg (fun l => x2 (ix2 r l)) (Fin.ext (by show 128 * (g.val / 2) + (64 * 0 + e.val) = 64 * g.val + e.val; omega))
  · rw [dupHi_lane, normRope_lane _ _ _ _ _ _ _ hc hs hk]
    unfold kCol
    refine congrFun (congrArg (fun f => Attn.headRope (C r) (S r) (Attn.headNorm Gk f)) (funext fun e => ?_)) d
    exact congrArg (fun l => x2 (ix2 r l)) (Fin.ext (by show 128 * (g.val / 2) + (64 * 1 + e.val) = 64 * g.val + e.val; omega))

include hc hs hq in
theorem query_lane (H : Fin 16) (r : Fin 128) (p : Fin 8) (hp : p.val = H.val / 2) (R : Fin 256) (hR : R.val = 128 * (H.val % 2) + r.val) (h : Fin 2) (d : Fin 64) :
    queryRows x6 x4 x5 (qCol x1 p) (ix2 R (lane h d)) = if H.val % 2 = h.val then qRow x1 C S Gq H r d * Ideal.ofBits .f32 0x3E000000#32 else 0 := by
  rw [queryRows_lane _ _ _ _ _ _ _ hc hs hq ⟨H.val % 2, by omega⟩ r R hR]
  by_cases e : H.val % 2 = h.val
  · rw [if_pos (Fin.ext e), if_pos e]
    unfold qRow qCol
    refine congrArg (· * _) (congrFun (congrArg (fun f => Attn.headRope (C r) (S r) (Attn.headNorm Gq f)) (funext fun e => ?_)) d)
    exact congrArg (fun l => x1 (ix2 r l)) (Fin.ext (by show 128 * p.val + (64 * h.val + e.val) = 64 * H.val + e.val; omega))
  · rw [if_neg (fun he => e (congrArg Fin.val he)), if_neg e]

include hc hs hq hk hkp hvp in
/-- Head `4 g + ρ` of row `r`, at either half of the lanes. -/
theorem group_apply (g ρ : Fin 4) (r : Fin 128) (R : Fin 512) (hR : R.val = 128 * ρ.val + r.val) (H : Fin 16) (hH : H.val = 4 * g.val + ρ.val) (h : Fin 2) (d : Fin 64) :
    group (maskAt i) x0 x1 x2 x3 x4 x5 x6 x7 xs0 xs1 g (ix2 R (lane h d)) =
      Attn.rowOut (Attn.rowScores ((i 1).val = 0) r.val (qRow x1 C S Gq H r) (Attn.window (KP g) (kRow x2 C S Gk g))) (x0 (ix1 H))
        (fun k => Attn.window (VP g) (vRow x3 g) k d) := by
  unfold group
  refine attend_apply _ _ _ _ _ _ _ (fun k => ?_) _ ?_ _ fun k => ?_
  · rw [maskAt_apply, show R.val % 128 = r.val from by omega]
    refine (congrArg (fun z => Scalar.select (if Attn.sees ((i 1).val = 0) r.val k.val then 1#1 else 0#1) z (⊥ : EReal))
      (scores_apply (fun a => queryRows x6 x4 x5 (qCol x1 ⟨2 * g.val + a.val, by omega⟩)) _ ρ r R hR k
        (fun d => qRow x1 C S Gq H r d * Ideal.ofBits .f32 0x3E000000#32) (Attn.window (KP g) (kRow x2 C S Gk g) k) ?_ ?_)).trans ?_
    rotate_left 2
    · unfold Attn.rowScores
      split <;> rfl
    · intro h d
      dsimp only
      rw [query_lane x1 x4 x5 x6 C S Gq hc hs hq H r ⟨2 * g.val + ρ.val / 2, by omega⟩ (by show 2 * g.val + ρ.val / 2 = _; omega) _ (by show 128 * (ρ.val % 2) + r.val = _; omega),
        show H.val % 2 = ρ.val % 2 from by omega]
    · intro h d
      rw [withPrev_apply]
      unfold Attn.window
      split
      · exact hkp g _ h d
      · exact keyHead_lane x2 x4 x5 x7 C S Gk hc hs hk g _ h d
  · rw [sinkCol_apply _ ρ r R hR]
    exact congrArg (fun a => x0 (ix1 a)) (Fin.ext hH.symm)
  · rw [withPrev_apply]
    unfold Attn.window
    split
    · exact hvp g _ h d
    · exact valHead_lane x3 g _ h d

theorem pairLo_lane (o : FVec Ideal S512x128 .f32) (r : Fin 128) (h : Fin 2) (d : Fin 64) : pairLo o (ix2 r (lane h d)) = o (ix2 ⟨128 * h.val + r.val, by omega⟩ (lane h d)) := by
  unfold pairLo
  pointwise
  rw [lowMask_lane]
  rcases fin2 h with rfl | rfl
  · exact congrArg (fun a => o (ix2 a _)) (Fin.ext (by show r.val = 128 * 0 + r.val; omega))
  · exact congrArg (fun a => o (ix2 a _)) (Fin.ext (by show 128 + r.val = 128 * 1 + r.val; omega))

theorem pairHi_lane (o : FVec Ideal S512x128 .f32) (r : Fin 128) (h : Fin 2) (d : Fin 64) : pairHi o (ix2 r (lane h d)) = o (ix2 ⟨128 * (2 + h.val) + r.val, by omega⟩ (lane h d)) := by
  unfold pairHi
  pointwise
  rw [lowMask_lane]
  rcases fin2 h with rfl | rfl
  · exact congrArg (fun a => o (ix2 a _)) (Fin.ext (by show 256 + r.val = 128 * (2 + 0) + r.val; omega))
  · exact congrArg (fun a => o (ix2 a _)) (Fin.ext (by show 384 + r.val = 128 * (2 + 1) + r.val; omega))

include hc hs hq hk hkp hvp in
/-- Lane `d` of head `H` of row `r` of the point's output block. -/
theorem outBlock_apply (r : Fin 128) (H : Fin 16) (d : Fin 64) (g : Fin 4) (hg : g.val = H.val / 4) (l : Fin 1024) (hl : l.val = 64 * H.val + d.val) :
    outBlock (maskAt i) x0 x1 x2 x3 x4 x5 x6 x7 xs0 xs1 (ix2 r l) =
      Attn.rowOut (Attn.rowScores ((i 1).val = 0) r.val (qRow x1 C S Gq H r) (Attn.window (KP g) (kRow x2 C S Gk g))) (x0 (ix1 H))
        (fun k => Attn.window (VP g) (vRow x3 g) k d) := by
  have e : (⟨l.val % 128, by omega⟩ : Fin 128) = lane ⟨H.val % 2, by omega⟩ d := Fin.ext (by show l.val % 128 = 64 * (H.val % 2) + d.val; omega)
  have eg : (⟨l.val / 256, by omega⟩ : Fin 4) = g := Fin.ext (by show l.val / 256 = g.val; omega)
  show lanesOf _ r l = _
  unfold lanesOf
  rw [e, eg]
  split
  · rw [pairLo_lane]
    exact group_apply i x0 x1 x2 x3 x4 x5 x6 x7 xs0 xs1 C S Gq Gk KP VP hc hs hq hk hkp hvp g ⟨H.val % 4, by omega⟩ r _
      (by show 128 * (H.val % 2) + r.val = 128 * (H.val % 4) + r.val; omega) H (by show H.val = 4 * g.val + H.val % 4; omega) _ d
  · rw [pairHi_lane]
    exact group_apply i x0 x1 x2 x3 x4 x5 x6 x7 xs0 xs1 C S Gq Gk KP VP hc hs hq hk hkp hvp g ⟨H.val % 4, by omega⟩ r _
      (by show 128 * (2 + H.val % 2) + r.val = 128 * (H.val % 4) + r.val; omega) H (by show H.val = 4 * g.val + H.val % 4; omega) _ d

end

end Cert.KernelIdeal.Attn

end
-- ==== Proof.AttnHost.lean ====
/- The attention kernel's blocks, read off the arguments. -/
module

public import proofs.«01_k».proof.Proof.AttnIdeal
public import Idealize.ShloMosaic.Lib.StableHlo.ReadAt

@[expose] public section

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

/-! ## The arguments, and what the host operations make of them -/

def proj : Attn.Proj := fun b s l => m (c, Proc.tc.devRef main_arg0) (ix3 b s l)
def qGain : Fin 64 → EReal := fun e => m (c, Proc.tc.devRef main_arg1) (ix1 e)
def kGain : Fin 64 → EReal := fun e => m (c, Proc.tc.devRef main_arg2) (ix1 e)
def sinks : Fin 16 → EReal := fun H => m (c, Proc.tc.devRef main_arg3) (ix1 H)

theorem q_at (R : Fin 16384) (C : Fin 4096) (b : Fin 8) (s : Fin 2048) (l : Fin 4112) (hR : R.val = 2048 * b.val + s.val) (h : C.val < 1024) (hl : l.val = C.val) :
    V m c main_v30 (ix2 R C) = proj m c b s l := by
  have eb : b = ⟨R.val / 2048, Nat.div_lt_of_lt_mul R.isLt⟩ := Fin.ext (by show b.val = R.val / 2048; omega)
  have es : s = ⟨R.val % 2048, Nat.mod_lt _ (by decide)⟩ := Fin.ext (by show s.val = R.val % 2048; omega)
  have el : l = ⟨C.val, by omega⟩ := Fin.ext hl
  rw [eb, es, el]
  unfold V proj
  after_reads_at
  rw [dif_pos h]
  after_reads_at

theorem k_at (R : Fin 16384) (C : Fin 4096) (b : Fin 8) (s : Fin 2048) (l : Fin 4112) (hR : R.val = 2048 * b.val + s.val) (h : 3072 ≤ C.val) (h' : C.val < 3328) (hl : l.val = 1024 + (C.val - 1024 - 1024 - 1024)) :
    V m c main_v30 (ix2 R C) = proj m c b s l := by
  have eb : b = ⟨R.val / 2048, Nat.div_lt_of_lt_mul R.isLt⟩ := Fin.ext (by show b.val = R.val / 2048; omega)
  have es : s = ⟨R.val % 2048, Nat.mod_lt _ (by decide)⟩ := Fin.ext (by show s.val = R.val % 2048; omega)
  have el : l = ⟨1024 + (C.val - 1024 - 1024 - 1024), by omega⟩ := Fin.ext hl
  rw [eb, es, el]
  unfold V proj
  after_reads_at
  rw [dif_neg (by omega), dif_neg (by omega), dif_neg (by omega), dif_pos (by omega)]
  after_reads_at

theorem v_at (R : Fin 16384) (C : Fin 4096) (b : Fin 8) (s : Fin 2048) (l : Fin 4112) (hR : R.val = 2048 * b.val + s.val) (h : 3328 ≤ C.val) (h' : C.val < 3584) (hl : l.val = 1280 + (C.val - 1024 - 1024 - 1024 - 256)) :
    V m c main_v30 (ix2 R C) = proj m c b s l := by
  have eb : b = ⟨R.val / 2048, Nat.div_lt_of_lt_mul R.isLt⟩ := Fin.ext (by show b.val = R.val / 2048; omega)
  have es : s = ⟨R.val % 2048, Nat.mod_lt _ (by decide)⟩ := Fin.ext (by show s.val = R.val % 2048; omega)
  have el : l = ⟨1280 + (C.val - 1024 - 1024 - 1024 - 256), by omega⟩ := Fin.ext hl
  rw [eb, es, el]
  unfold V proj
  after_reads_at
  rw [dif_neg (by omega), dif_neg (by omega), dif_neg (by omega), dif_neg (by omega), dif_pos (by omega)]
  after_reads_at

theorem qGain_at (h : Fin 2) (e : Fin 64) : V m c main_v34 (ix2 0 (lane h e)) = qGain m c e := by
  unfold V qGain
  after_reads_at
  exact congrArg (fun l => m (c, Proc.tc.devRef main_arg1) (ix1 l)) (Fin.ext (by show (64 * h.val + e.val) % 64 = e.val; omega))

theorem kGain_at (h : Fin 2) (e : Fin 64) : V m c main_v38 (ix2 0 (lane h e)) = kGain m c e := by
  unfold V kGain
  after_reads_at
  exact congrArg (fun l => m (c, Proc.tc.devRef main_arg2) (ix1 l)) (Fin.ext (by show (64 * h.val + e.val) % 64 = e.val; omega))

theorem cos_at (s : Fin 2048) (l : Fin 128) : V m c main_v18 (ix2 s l) = Attn.cosAt s ⟨l.val % 32, Nat.mod_lt _ (by decide)⟩ := by
  unfold V Attn.cosAt Attn.angle
  after_reads_at
  by_cases h : l.val < 32
  · rw [dif_pos h]
    after_reads_at
    rw [show l.val % 32 = l.val by omega]
  by_cases h2 : l.val - 32 < 32
  · rw [dif_neg h, dif_pos h2]
    after_reads_at
    rw [show l.val % 32 = l.val - 32 by omega]
  by_cases h3 : l.val - 32 - 32 < 32
  · rw [dif_neg h, dif_neg h2, dif_pos h3]
    after_reads_at
    rw [show l.val % 32 = l.val - 32 - 32 by omega]
  · rw [dif_neg h, dif_neg h2, dif_neg h3]
    after_reads_at
    rw [show l.val % 32 = l.val - 32 - 32 - 32 by omega]

theorem sin_at (s : Fin 2048) (l : Fin 128) : V m c main_v21 (ix2 s l) =
    if l.val % 64 < 32 then -Attn.sinAt s ⟨l.val % 32, Nat.mod_lt _ (by decide)⟩ else Attn.sinAt s ⟨l.val % 32, Nat.mod_lt _ (by decide)⟩ := by
  unfold V Attn.sinAt Attn.angle
  after_reads_at
  by_cases h : l.val < 32
  · rw [dif_pos h, if_pos (show l.val % 64 < 32 by omega)]
    after_reads_at
    rw [show l.val % 32 = l.val by omega]
  by_cases h2 : l.val - 32 < 32
  · rw [dif_neg h, dif_pos h2, if_neg (show ¬ l.val % 64 < 32 by omega)]
    after_reads_at
    rw [show l.val % 32 = l.val - 32 by omega]
  by_cases h3 : l.val - 32 - 32 < 32
  · rw [dif_neg h, dif_neg h2, dif_pos h3, if_pos (show l.val % 64 < 32 by omega)]
    after_reads_at
    rw [show l.val % 32 = l.val - 32 - 32 by omega]
  · rw [dif_neg h, dif_neg h2, dif_neg h3, if_neg (show ¬ l.val % 64 < 32 by omega)]
    after_reads_at
    rw [show l.val % 32 = l.val - 32 - 32 - 32 by omega]

/-! ## The blocks that a point reads -/

theorem idx0 : ∀ t : Fin grid0.N, win0_0.index t = ![0] := by decide +kernel
theorem idx1 : ∀ t : Fin grid0.N, win0_1.index t = ![t.val, 0] := by decide +kernel
theorem idx2 : ∀ t : Fin grid0.N, win0_2.index t = ![t.val, 12] := by decide +kernel
theorem idx3 : ∀ t : Fin grid0.N, win0_3.index t = ![t.val, 13] := by decide +kernel
theorem idx4 : ∀ t : Fin grid0.N, win0_4.index t = ![t.val % 16, 0] := by decide +kernel
theorem idx5 : ∀ t : Fin grid0.N, win0_5.index t = ![t.val % 16, 0] := by decide +kernel
theorem idx6 : ∀ t : Fin grid0.N, win0_6.index t = ![0, 0] := by decide +kernel
theorem idx7 : ∀ t : Fin grid0.N, win0_7.index t = ![0, 0] := by decide +kernel
theorem coords1 : ∀ t : Fin grid0.N, (grid0.coords t 1).val = t.val % 16 := by decide +kernel

theorem blk1 (t : Fin 128) (r : Fin 128) (l : Fin 1024) : iblk m c 1 t (ix2 r l) = V m c main_v30 (ix2 ⟨128 * t.val + r.val, by omega⟩ ⟨l.val, by omega⟩) := by
  unfold iblk
  blk_ext [iblk, idx1 t]

theorem blk2 (t : Fin 128) (r : Fin 128) (l : Fin 256) : iblk m c 2 t (ix2 r l) = V m c main_v30 (ix2 ⟨128 * t.val + r.val, by omega⟩ ⟨3072 + l.val, by omega⟩) := by
  unfold iblk
  blk_ext [iblk, idx2 t]

theorem blk3 (t : Fin 128) (r : Fin 128) (l : Fin 256) : iblk m c 3 t (ix2 r l) = V m c main_v30 (ix2 ⟨128 * t.val + r.val, by omega⟩ ⟨3328 + l.val, by omega⟩) := by
  unfold iblk
  blk_ext [iblk, idx3 t]

theorem blk4 (t : Fin 128) (r : Fin 128) (l : Fin 128) : iblk m c 4 t (ix2 r l) = V m c main_v18 (ix2 (Attn.pos ⟨t.val % 16, by omega⟩ r) l) := by
  unfold iblk Attn.pos
  blk_ext [iblk, idx4 t]

theorem blk5 (t : Fin 128) (r : Fin 128) (l : Fin 128) : iblk m c 5 t (ix2 r l) = V m c main_v21 (ix2 (Attn.pos ⟨t.val % 16, by omega⟩ r) l) := by
  unfold iblk Attn.pos
  blk_ext [iblk, idx5 t]

theorem blk6 (t : Fin 128) (l : Fin 128) : iblk m c 6 t (ix2 0 l) = V m c main_v34 (ix2 0 l) := by
  unfold iblk
  blk_ext [iblk, idx6 t]

theorem blk7 (t : Fin 128) (l : Fin 128) : iblk m c 7 t (ix2 0 l) = V m c main_v38 (ix2 0 l) := by
  unfold iblk
  blk_ext [iblk, idx7 t]

theorem blk0 (t : Fin 128) (H : Fin 16) : iblk m c 0 t (ix1 H) = sinks m c H := by
  unfold iblk sinks
  blk_ext [iblk, idx0 t]

/-! ## The result -/

/-- The batch and the block of a point. -/
def batchOf (t : Fin 128) : Fin 8 := ⟨t.val / 16, by omega⟩
def blockOf (t : Fin 128) : Fin 16 := ⟨t.val % 16, by omega⟩

theorem qRow_at (t : Fin 128) (H : Fin 16) (r : Fin 128) :
    qRow (iblk m c 1 t) (fun r => Attn.cosAt (Attn.pos (blockOf t) r)) (fun r => Attn.sinAt (Attn.pos (blockOf t) r)) (qGain m c) H r
      = Attn.qHead (proj m c) (qGain m c) (batchOf t) (Attn.pos (blockOf t) r) H := by
  unfold qRow Attn.qHead
  congr 2
  funext e
  rw [blk1]
  refine q_at m c _ _ _ _ _ ?_ ?_ ?_
  · show 128 * t.val + r.val = 2048 * (t.val / 16) + (128 * (t.val % 16) + r.val); omega
  · show 64 * H.val + e.val < 1024; omega
  · rfl

theorem kRow_at (t : Fin 128) (g : Fin 4) (r : Fin 128) :
    kRow (iblk m c 2 t) (fun r => Attn.cosAt (Attn.pos (blockOf t) r)) (fun r => Attn.sinAt (Attn.pos (blockOf t) r)) (kGain m c) g r
      = Attn.kHead (proj m c) (kGain m c) (batchOf t) (Attn.pos (blockOf t) r) g := by
  unfold kRow Attn.kHead
  congr 2
  funext e
  rw [blk2]
  refine k_at m c _ _ _ _ _ ?_ ?_ ?_ ?_
  · show 128 * t.val + r.val = 2048 * (t.val / 16) + (128 * (t.val % 16) + r.val); omega
  · show 3072 ≤ 3072 + (64 * g.val + e.val); omega
  · show 3072 + (64 * g.val + e.val) < 3328; omega
  · show 1024 + 64 * g.val + e.val = 1024 + (3072 + (64 * g.val + e.val) - 1024 - 1024 - 1024); omega

theorem vRow_at (t : Fin 128) (g : Fin 4) (r : Fin 128) :
    vRow (iblk m c 3 t) g r = Attn.vHead (proj m c) (batchOf t) (Attn.pos (blockOf t) r) g := by
  funext d
  unfold vRow Attn.vHead
  rw [blk3]
  refine v_at m c _ _ _ _ _ ?_ ?_ ?_ ?_
  · show 128 * t.val + r.val = 2048 * (t.val / 16) + (128 * (t.val % 16) + r.val); omega
  · show 3328 ≤ 3328 + (64 * g.val + d.val); omega
  · show 3328 + (64 * g.val + d.val) < 3584; omega
  · show 1280 + 64 * g.val + d.val = 1280 + (3328 + (64 * g.val + d.val) - 1024 - 1024 - 1024 - 256); omega

theorem keys_at (t : Fin 128) (g : Fin 4) (r : Fin 128) (h : Fin 2) (d : Fin 64) :
    keysOf m c t (ix3 g r (lane h d)) = Attn.kHead (proj m c) (kGain m c) (batchOf t) (Attn.pos (blockOf t) r) g d := by
  rw [← kRow_at]
  refine keyHead_lane (iblk m c 2 t) (iblk m c 4 t) (iblk m c 5 t) (iblk m c 7 t) _ _ _ ?_ ?_ ?_ g r h d
  · intro r l; rw [blk4, cos_at]; rfl
  · intro r l; rw [blk5, sin_at]; rfl
  · intro h e; rw [blk7, kGain_at]

theorem vals_at (t : Fin 128) (g : Fin 4) (r : Fin 128) (h : Fin 2) (d : Fin 64) :
    valsOf m c t (ix3 g r (lane h d)) = Attn.vHead (proj m c) (batchOf t) (Attn.pos (blockOf t) r) g d := by
  rw [← vRow_at]
  exact valHead_lane (iblk m c 3 t) g r h d

theorem noRows_apply (y : S4x128x128.Idx) : noRows (F := Ideal) y = (0 : EReal) := by
  unfold noRows
  pointwise

/-- An element of the output: batch `b`, row `r` of block `n`, lane `d` of head `H`. -/
theorem result (R : Fin 16384) (L : Fin 1024) (b : Fin 8) (n : Fin 16) (r : Fin 128) (H : Fin 16) (d : Fin 64)
    (hR : R.val = 2048 * b.val + 128 * n.val + r.val) (hL : L.val = 64 * H.val + d.val) :
    Value.G8 m c (ix2 R L) = Attn.rowOut (Attn.scoreRow (proj m c) (qGain m c) (kGain m c) b n r H) (sinks m c H) (Attn.valueRow (proj m c) b n H d) := by
  rw [result_at]
  obtain ⟨t, ht⟩ : ∃ t : Fin 128, t = ptOf R := ⟨_, rfl⟩
  have htv : t.val = R.val / 128 := congrArg Fin.val ht
  rw [← ht]
  obtain rfl : b = batchOf t := Fin.ext (by show b.val = t.val / 16; omega)
  obtain rfl : n = blockOf t := Fin.ext (by show n.val = t.val % 16; omega)
  have hn : (grid0.coords t 1).val = (blockOf t).val := coords1 t
  rw [show (⟨R.val % 128, Nat.mod_lt _ (by decide)⟩ : Fin 128) = r from Fin.ext (by show R.val % 128 = r.val; omega)]
  refine (outBlock_apply (grid0.coords t) _ (iblk m c 1 t) (iblk m c 2 t) (iblk m c 3 t) _ _ _ _ _ _
    (fun r => Attn.cosAt (Attn.pos (blockOf t) r)) (fun r => Attn.sinAt (Attn.pos (blockOf t) r)) (qGain m c) (kGain m c)
    (fun g r d => if (blockOf t).val = 0 then 0 else Attn.kHead (proj m c) (kGain m c) (batchOf t) (Attn.pos ⟨(blockOf t).val - 1, by omega⟩ r) g d)
    (fun g r d => if (blockOf t).val = 0 then 0 else Attn.vHead (proj m c) (batchOf t) (Attn.pos ⟨(blockOf t).val - 1, by omega⟩ r) g d)
    ?_ ?_ ?_ ?_ ?_ ?_ r H d (Attn.groupOf H) rfl L hL).trans ?_
  · intro r l; rw [blk4, cos_at]; rfl
  · intro r l; rw [blk5, sin_at]; rfl
  · intro h e; rw [blk6, qGain_at]
  · intro h e; rw [blk7, kGain_at]
  · intro g r h d
    by_cases h0 : t.val % 16 = 0
    · rw [if_pos h0, if_pos (show (blockOf t).val = 0 from h0), noRows_apply]
    · have e1 : batchOf (before t) = batchOf t := Fin.ext (by show (t.val - 1) / 16 = t.val / 16; omega)
      have e2 : blockOf (before t) = ⟨(blockOf t).val - 1, by omega⟩ := Fin.ext (by show (t.val - 1) % 16 = t.val % 16 - 1; omega)
      rw [if_neg h0, if_neg (show ¬ (blockOf t).val = 0 from h0)]
      refine (keys_at m c (before t) g r h d).trans ?_
      rw [e1, e2]
  · intro g r h d
    by_cases h0 : t.val % 16 = 0
    · rw [if_pos h0, if_pos (show (blockOf t).val = 0 from h0), noRows_apply]
    · have e1 : batchOf (before t) = batchOf t := Fin.ext (by show (t.val - 1) / 16 = t.val / 16; omega)
      have e2 : blockOf (before t) = ⟨(blockOf t).val - 1, by omega⟩ := Fin.ext (by show (t.val - 1) % 16 = t.val % 16 - 1; omega)
      rw [if_neg h0, if_neg (show ¬ (blockOf t).val = 0 from h0)]
      refine (vals_at m c (before t) g r h d).trans ?_
      rw [e1, e2]
  · rw [qRow_at]
    simp only [funext (kRow_at m c t (Attn.groupOf H)), funext (vRow_at m c t (Attn.groupOf H)), blk0]
    exact congrArg (fun s => Attn.rowOut s (sinks m c H) _) (Attn.rowScores_congr (by rw [hn]) _ _ _)

end Cert.KernelIdeal.Attn

end
-- ==== Proof.AttnRef.lean ====
/- The reference, read at an index. -/
module

public import proofs.«01_k».proof.Proof.AttnSpec
public import proofs.«01_k».proof.Proof.Gen.ReferenceIdeal.Read
public import Idealize.ShloMosaic.Lib.StableHlo.ReadAt
public import Idealize.ShloMosaic.Lib.Tactic.CleanTypes

@[expose] public section

noncomputable section

namespace Cert.ReferenceIdeal.Attn

open Cert.ReferenceIdeal Cert.ReferenceIdeal.Gen Cert.ReferenceIdeal.Read
open Idealize.ShloMosaic Idealize.ShloMosaic.TcCoe Idealize.SL.Sem

variable (x0 : (⟨S8x2048x4112, .f32⟩ : BufTy).Contents (Elt Ideal)) (x1 x2 : (⟨S64, .f32⟩ : BufTy).Contents (Elt Ideal)) (x3 : (⟨S16, .f32⟩ : BufTy).Contents (Elt Ideal))

/-- The projection, batch by position by column. -/
def proj : Attn.Proj := fun b s e => x0 (ix3 b s e)

/-- A head's gain, by lane. -/
def gain (x : (⟨S64, .f32⟩ : BufTy).Contents (Elt Ideal)) (e : Fin 64) : EReal := x (ix1 e)

/-- The sinks, by head. -/
def sinks (H : Fin 16) : EReal := x3 (ix1 H)

theorem zero_word : FloatOps.ofBits (F := Ideal) .f32 0x00000000#32 = (0 : EReal) := by simp [FloatOps.ofBits, Ideal.ofBits, Ideal.ieee]

/-- Dividing by 64 is multiplying by a sixty-fourth. -/
theorem div_lanes (x : EReal) : Ideal.div x (Ideal.ofBits .f32 0x42800000#32) = x * Ideal.ofBits .f32 0x3C800000#32 := by
  have e : Ideal.ofBits .f32 0x42800000#32 = ((64 : ℝ) : EReal) := by simp [Ideal.ofBits, Ideal.ieee, -EReal.coe_mul]; norm_num
  have e' : Ideal.ofBits .f32 0x3C800000#32 = ((64⁻¹ : ℝ) : EReal) := by simp [Ideal.ofBits, Ideal.ieee, -EReal.coe_mul]; norm_num
  rw [e, e']
  unfold Ideal.div
  rw [if_neg (by exact_mod_cast (by norm_num : (64 : ℝ) ≠ 0)), EReal.coe_inv]

theorem angle_at (s : Fin 2048) (e : Fin 32) : val_main_v15 (F := Ideal) (ix2 s e) = Attn.angle s.val e.val := by
  unfold val_main_v15 val_main_v14 val_main_v13 val_main_v12 val_main_v11 val_main_v10 val_main_v9 val_main_v8 val_main_v7 val_main_v6 val_main_v5 val_main_v4
    val_main_v3 val_main_v2 val_main_v1 val_main_v0 val_main_cst val_main_cst_0 val_main_cst_1 val_main_cst_2
  pointwise
  rw [show FloatOps.addf (F := Ideal) (φ := .f32) (FloatOps.ofBits .f32 0x00000000#32)
      (FloatOps.mulf (FloatOps.ofBits .f32 0x40000000#32) (FloatOps.sitofp .f32 (BitVec.ofNat 32 e.val))) = _ from
    (congrArg (· + _) zero_word).trans (zero_add _)]
  rfl

theorem cos_at (s : Fin 2048) (e : Fin 32) : val_main_v16 (F := Ideal) (ix2 s e) = Attn.cosAt s e := by
  unfold val_main_v16
  pointwise
  rw [angle_at]; rfl

theorem sin_at (s : Fin 2048) (e : Fin 32) : val_main_v17 (F := Ideal) (ix2 s e) = Attn.sinAt s e := by
  unfold val_main_v17
  pointwise
  rw [angle_at]; rfl

theorem query_at (b : Fin 8) (s : Fin 2048) (H : Fin 16) (d : Fin 64) : val_main_v22 (F := Ideal) x0 (ix4 b s H d) = proj x0 b s ⟨64 * H.val + d.val, by omega⟩ := by
  unfold val_main_v22 val_main_v18
  pointwise
  exact congrArg (fun l => x0 (ix3 b s l)) (Fin.ext (by show H.val * 64 + d.val = 64 * H.val + d.val; omega))

theorem key_at (b : Fin 8) (s : Fin 2048) (g : Fin 4) (d : Fin 64) : val_main_v51 (F := Ideal) x0 (ix4 b s g d) = proj x0 b s ⟨1024 + 64 * g.val + d.val, by omega⟩ := by
  unfold val_main_v51 val_main_v19
  pointwise
  exact congrArg (fun l => x0 (ix3 b s l)) (Fin.ext (by show 1024 + (g.val * 64 + d.val) = 1024 + 64 * g.val + d.val; omega))

theorem value_at (b : Fin 8) (s : Fin 2048) (g : Fin 4) (d : Fin 64) : val_main_v80 (F := Ideal) x0 (ix4 b s g d) = proj x0 b s ⟨1280 + 64 * g.val + d.val, by omega⟩ := by
  unfold val_main_v80 val_main_v20
  pointwise
  exact congrArg (fun l => x0 (ix3 b s l)) (Fin.ext (by show 1280 + (g.val * 64 + d.val) = 1280 + 64 * g.val + d.val; omega))

theorem normedQuery_at (b : Fin 8) (s : Fin 2048) (H : Fin 16) (d : Fin 64) :
    val_main_v35 (F := Ideal) x0 x1 (ix4 b s H d) = Attn.headNorm (gain x1) (fun e => val_main_v22 (F := Ideal) x0 (ix4 b s H e)) d := by
  unfold val_main_v35 val_main_v34 val_main_v33 val_main_v32 val_main_v31 val_main_v30 val_main_v29 val_main_v28 val_main_v27 val_main_v26 val_main_v25
  pointwise
  have e : val_main_v24 (F := Ideal) x0 (ix3 b s H) = ∑ e, val_main_v22 (F := Ideal) x0 (ix4 b s H e) * val_main_v22 (F := Ideal) x0 (ix4 b s H e) := by
    rw [val_main_v24_apply, val_main_cst_3_apply, zero_word]
    refine (zero_add _).trans (Finset.sum_congr rfl fun e _ => ?_)
    rw [show idx_main_v24 (ix3 b s H) e = ix4 b s H e from funext fun a => Fin.ext (by match a with | ⟨0, _⟩ => rfl | ⟨1, _⟩ => rfl | ⟨2, _⟩ => rfl | ⟨3, _⟩ => rfl)]
    rfl
  rw [e]
  unfold Attn.headNorm
  rw [← div_lanes]
  rfl

theorem normedKey_at (b : Fin 8) (s : Fin 2048) (g : Fin 4) (d : Fin 64) :
    val_main_v64 (F := Ideal) x0 x2 (ix4 b s g d) = Attn.headNorm (gain x2) (fun e => val_main_v51 (F := Ideal) x0 (ix4 b s g e)) d := by
  unfold val_main_v64 val_main_v63 val_main_v62 val_main_v61 val_main_v60 val_main_v59 val_main_v58 val_main_v57 val_main_v56 val_main_v55 val_main_v54
  pointwise
  have e : val_main_v53 (F := Ideal) x0 (ix3 b s g) = ∑ e, val_main_v51 (F := Ideal) x0 (ix4 b s g e) * val_main_v51 (F := Ideal) x0 (ix4 b s g e) := by
    rw [val_main_v53_apply, val_main_cst_6_apply, zero_word]
    refine (zero_add _).trans (Finset.sum_congr rfl fun e _ => ?_)
    rw [show idx_main_v53 (ix3 b s g) e = ix4 b s g e from funext fun a => Fin.ext (by match a with | ⟨0, _⟩ => rfl | ⟨1, _⟩ => rfl | ⟨2, _⟩ => rfl | ⟨3, _⟩ => rfl)]
    rfl
  rw [e]
  unfold Attn.headNorm
  rw [← div_lanes]
  rfl

theorem roped_at (b : Fin 8) (s : Fin 2048) (H : Fin 16) (d : Fin 64) :
    val_main_v50 (F := Ideal) x0 x1 (ix4 b s H d) = Attn.qHead (proj x0) (gain x1) b s H d := by
  have hd : d.val < 64 := d.isLt
  have e : Attn.qHead (proj x0) (gain x1) b s H = Attn.headRope (Attn.cosAt s) (Attn.sinAt s) fun e => val_main_v35 (F := Ideal) x0 x1 (ix4 b s H e) := by
    unfold Attn.qHead
    refine congrArg _ (funext fun e => ?_)
    rw [normedQuery_at]
    exact congrArg (fun f => Attn.headNorm (gain x1) f e) (funext fun e => (query_at x0 b s H e).symm)
  rw [e]
  unfold val_main_v50 val_main_v49 val_main_v48 val_main_v47 val_main_v46 val_main_v45 val_main_v44 val_main_v43 val_main_v42 val_main_v41 val_main_v40 val_main_v39 val_main_v38
    val_main_v37 val_main_v36
  pointwise
  simp only [cos_at, sin_at]
  unfold Attn.headRope
  refine dite_congr rfl (fun h => ?_) (fun h => ?_)
  · rw [show (⟨32 + d.val, by omega⟩ : Fin 64) = ⟨d.val + 32, by omega⟩ from Fin.ext (Nat.add_comm _ _)]; rfl
  · rw [show (⟨32 + (d.val - 32), by omega⟩ : Fin 64) = d from Fin.ext (by show 32 + (d.val - 32) = d.val; omega)]; rfl

theorem ropedKey_at (b : Fin 8) (s : Fin 2048) (g : Fin 4) (d : Fin 64) :
    val_main_v79 (F := Ideal) x0 x2 (ix4 b s g d) = Attn.kHead (proj x0) (gain x2) b s g d := by
  have hd : d.val < 64 := d.isLt
  have e : Attn.kHead (proj x0) (gain x2) b s g = Attn.headRope (Attn.cosAt s) (Attn.sinAt s) fun e => val_main_v64 (F := Ideal) x0 x2 (ix4 b s g e) := by
    unfold Attn.kHead
    refine congrArg _ (funext fun e => ?_)
    rw [normedKey_at]
    exact congrArg (fun f => Attn.headNorm (gain x2) f e) (funext fun e => (key_at x0 b s g e).symm)
  rw [e]
  unfold val_main_v79 val_main_v78 val_main_v77 val_main_v76 val_main_v75 val_main_v74 val_main_v73 val_main_v72 val_main_v71 val_main_v70 val_main_v69 val_main_v68 val_main_v67
    val_main_v66 val_main_v65
  pointwise
  simp only [cos_at, sin_at]
  unfold Attn.headRope
  refine dite_congr rfl (fun h => ?_) (fun h => ?_)
  · rw [show (⟨32 + d.val, by omega⟩ : Fin 64) = ⟨d.val + 32, by omega⟩ from Fin.ext (Nat.add_comm _ _)]; rfl
  · rw [show (⟨32 + (d.val - 32), by omega⟩ : Fin 64) = d from Fin.ext (by show 32 + (d.val - 32) = d.val; omega)]; rfl

theorem keyBlock_at (b : Fin 8) (n : Fin 16) (r : Fin 128) (g : Fin 4) (d : Fin 64) :
    val_main_v82 (F := Ideal) x0 x2 (ix5 b n r g d) = Attn.kHead (proj x0) (gain x2) b (Attn.pos n r) g d := by
  unfold val_main_v82
  pointwise
  rw [← ropedKey_at]
  exact congrArg (fun s => val_main_v79 (F := Ideal) x0 x2 (ix4 b s g d)) (Fin.ext (by show n.val * 128 + r.val = 128 * n.val + r.val; omega))

theorem valueBlock_at (b : Fin 8) (n : Fin 16) (r : Fin 128) (g : Fin 4) (d : Fin 64) :
    val_main_v83 (F := Ideal) x0 (ix5 b n r g d) = Attn.vHead (proj x0) b (Attn.pos n r) g d := by
  unfold val_main_v83
  pointwise
  rw [value_at]
  unfold Attn.vHead
  exact congrArg (fun s => proj x0 b s _) (Fin.ext (by show n.val * 128 + r.val = 128 * n.val + r.val; omega))

theorem keys_at (b : Fin 8) (n : Fin 16) (k : Fin 256) (g : Fin 4) (d : Fin 64) :
    val_main_v88 (F := Ideal) x0 x2 (ix5 b n k g d) = Attn.blocks (fun s => Attn.kHead (proj x0) (gain x2) b s g) n k d := by
  unfold val_main_v88 val_main_v87 val_main_v86 val_main_v85 val_main_cst_9
  pointwise
  simp only [keyBlock_at, zero_word]
  unfold Attn.blocks Attn.window
  refine dite_congr rfl (fun h => ?_) fun _ => rfl
  by_cases h0 : n.val = 0
  · rw [dif_pos (by omega : n.val < 1)]; exact (if_pos h0).symm
  · rw [dif_neg (by omega : ¬ n.val < 1)]; exact (if_neg h0).symm

theorem values_at (b : Fin 8) (n : Fin 16) (k : Fin 256) (g : Fin 4) (d : Fin 64) :
    val_main_v93 (F := Ideal) x0 (ix5 b n k g d) = Attn.blocks (fun s => Attn.vHead (proj x0) b s g) n k d := by
  unfold val_main_v93 val_main_v92 val_main_v91 val_main_v90 val_main_cst_10
  pointwise
  simp only [valueBlock_at, zero_word]
  unfold Attn.blocks Attn.window
  refine dite_congr rfl (fun h => ?_) fun _ => rfl
  by_cases h0 : n.val = 0
  · rw [dif_pos (by omega : n.val < 1)]; exact (if_pos h0).symm
  · rw [dif_neg (by omega : ¬ n.val < 1)]; exact (if_neg h0).symm

theorem queries_at (b : Fin 8) (n : Fin 16) (r : Fin 128) (g ρ : Fin 4) (d : Fin 64) :
    val_main_v81 (F := Ideal) x0 x1 (ix6 b n r g ρ d) = Attn.qHead (proj x0) (gain x1) b (Attn.pos n r) ⟨4 * g.val + ρ.val, by omega⟩ d := by
  unfold val_main_v81
  pointwise
  rw [roped_at, show (⟨n.val * 128 + r.val, by omega⟩ : Fin 2048) = Attn.pos n r from Fin.ext (by show n.val * 128 + r.val = 128 * n.val + r.val; omega),
    show (⟨g.val * 4 + ρ.val, by omega⟩ : Fin 16) = ⟨4 * g.val + ρ.val, by omega⟩ from Fin.ext (by show g.val * 4 + ρ.val = 4 * g.val + ρ.val; omega)]

end Cert.ReferenceIdeal.Attn

end
-- ==== Proof.AttnRefScores.lean ====
/- The reference's masked scores, read at an index. -/
module

public import proofs.«01_k».proof.Proof.AttnRef
public import Idealize.ShloMosaic.Lib.StableHlo.ReadAt
public import Idealize.ShloMosaic.Lib.Tactic.CleanTypes
public import Idealize.ShloMosaic.Lib.WordCmp

@[expose] public section

noncomputable section

namespace Cert.ReferenceIdeal.Attn

open Cert.ReferenceIdeal Cert.ReferenceIdeal.Gen Cert.ReferenceIdeal.Read
open Idealize.ShloMosaic Idealize.ShloMosaic.TcCoe Idealize.SL.Sem

variable (x0 : (⟨S8x2048x4112, .f32⟩ : BufTy).Contents (Elt Ideal)) (x1 x2 : (⟨S64, .f32⟩ : BufTy).Contents (Elt Ideal)) (x3 : (⟨S16, .f32⟩ : BufTy).Contents (Elt Ideal))

theorem toInt_sub_ofNat (a k : ℕ) (ha : a < 2 ^ 30) (hk : k < 2 ^ 30) : (BitVec.ofNat 32 a - BitVec.ofNat 32 k).toInt = (a : ℤ) - k := by
  rw [BitVec.toInt_sub, BitVec.toInt_ofNat', BitVec.toInt_ofNat']
  simp only [Int.bmod]
  omega

theorem mask_at (b : Fin 8) (n : Fin 16) (g ρ : Fin 4) (r : Fin 128) (k : Fin 256) :
    val_main_v128 (F := Ideal) (ix6 b n g ρ r k) = if Attn.sees (n.val = 0) r.val k.val then 1#1 else 0#1 := by
  unfold val_main_v128 val_main_v127 val_main_v126 val_main_v125 val_main_v124 val_main_v123 val_main_v122 val_main_v121 val_main_v120 val_main_v119 val_main_v118
    val_main_v117 val_main_v116 val_main_v115 val_main_v114 val_main_v113 val_main_v112 val_main_v111 val_main_v110 val_main_v109 val_main_v108 val_main_v107 val_main_v106
    val_main_v105 val_main_v104 val_main_v103 val_main_v102 val_main_v101 val_main_v100 val_main_v99 val_main_v98 val_main_c val_main_c_12 val_main_c_13 val_main_c_14
  pointwise
  have hn : n.val < 16 := n.isLt
  have hr : r.val < 128 := r.isLt
  have hk : k.val < 256 := k.isLt
  generalize n.val = n at *
  generalize r.val = r at *
  generalize k.val = k at *
  have e2 : IntOp.addi (BitVec.ofNat 32 r) 128#32 = BitVec.ofNat 32 (r + 128) := (BitVec.ofNat_add r 128).symm
  have e3 : IntOp.cmpi .slt (IntOp.subi (BitVec.ofNat 32 (r + 128)) (BitVec.ofNat 32 k)) 128#32 = BitVec.ofBool (decide (r < k)) := by
    show BitVec.ofBool (BitVec.slt (BitVec.ofNat 32 (r + 128) - BitVec.ofNat 32 k) 128#32) = _
    refine congrArg BitVec.ofBool ?_
    unfold BitVec.slt
    rw [toInt_sub_ofNat _ _ (by omega) (by omega)]
    refine decide_eq_decide.mpr ?_
    rw [show (128#32).toInt = 128 from rfl]
    omega
  have e4 : IntOp.cmpi .eq (BitVec.ofNat 32 n) 0#32 = BitVec.ofBool (decide (n = 0)) := by
    interval_cases n <;> decide
  rw [e2, e3, e4, WordCmp.cmpi_sle_ofNat (by omega) (by omega), WordCmp.cmpi_sge_ofNat (by omega) (by omega)]
  unfold Attn.sees
  by_cases h0 : n = 0 <;> by_cases h1 : r < k <;> by_cases h2 : k ≤ r + 128 <;> by_cases h3 : 128 ≤ k <;>
    simp [h0, h1, h2, h3, Scalar.select, IntOp.andi, Nat.lt_iff_add_one_le] <;> omega

/-- A nonnegative real goes into a sum. -/
theorem sum_mul_real {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem eighth : Ideal.ofBits .f32 0x3E000000#32 = ((8⁻¹ : ℝ) : EReal) := by simp [Ideal.ofBits, Ideal.ieee, -EReal.coe_mul]; norm_num

/-- Head `ρ` of group `g`. -/
def head (g ρ : Fin 4) : Fin 16 := ⟨4 * g.val + ρ.val, by omega⟩

theorem groupOf_head (g ρ : Fin 4) : Attn.groupOf (head g ρ) = g := Fin.ext (by show (4 * g.val + ρ.val) / 4 = g.val; omega)

theorem score_at (b : Fin 8) (n : Fin 16) (g ρ : Fin 4) (r : Fin 128) (k : Fin 256) :
    val_main_v97 (F := Ideal) x0 x1 x2 (ix6 b n g ρ r k) =
      ∑ d, Attn.qHead (proj x0) (gain x1) b (Attn.pos n r) (head g ρ) d * Ideal.ofBits .f32 0x3E000000#32 * Attn.blocks (fun s => Attn.kHead (proj x0) (gain x2) b s g) n k d := by
  have e : val_main_v94 (F := Ideal) x0 x1 x2 (ix6 b n g k r ρ) =
      ∑ d, Attn.blocks (fun s => Attn.kHead (proj x0) (gain x2) b s g) n k d * Attn.qHead (proj x0) (gain x1) b (Attn.pos n r) (head g ρ) d := by
    rw [val_main_v94_apply]
    refine Finset.sum_congr rfl fun d _ => ?_
    rw [show lidx_main_v94 (ix6 b n g k r ρ) d = ix5 b n k g d from funext fun a => Fin.ext (by match a with | ⟨0, _⟩ => rfl | ⟨1, _⟩ => rfl | ⟨2, _⟩ => rfl | ⟨3, _⟩ => rfl | ⟨4, _⟩ => rfl),
      show ridx_main_v94 (ix6 b n g k r ρ) d = ix6 b n r g ρ d from funext fun a => Fin.ext (by match a with | ⟨0, _⟩ => rfl | ⟨1, _⟩ => rfl | ⟨2, _⟩ => rfl | ⟨3, _⟩ => rfl | ⟨4, _⟩ => rfl | ⟨5, _⟩ => rfl),
      keys_at, queries_at]
    rfl
  unfold val_main_v97 val_main_v96 val_main_v95 val_main_cst_11
  pointwise
  rw [e]
  refine (congrArg (_ * ·) eighth).trans ((sum_mul_real _ _ _ (by norm_num)).trans (Finset.sum_congr rfl fun d _ => ?_))
  rw [eighth, mul_comm (Attn.blocks _ _ _ _), mul_right_comm]

theorem neg_inf : FloatOps.ofBits (F := Ideal) .f32 0xFF800000#32 = (⊥ : EReal) := by simp [FloatOps.ofBits, Ideal.ofBits, Ideal.ieee]

/-- The masked scores of head `ρ` of group `g`. -/
theorem masked_at (b : Fin 8) (n : Fin 16) (g ρ : Fin 4) (r : Fin 128) (k : Fin 256) :
    val_main_v130 (F := Ideal) x0 x1 x2 (ix6 b n g ρ r k) = Attn.scoreRow (proj x0) (gain x1) (gain x2) b n r (head g ρ) k := by
  unfold val_main_v130 val_main_v129 val_main_cst_15
  pointwise
  rw [mask_at, score_at, neg_inf]
  unfold Attn.scoreRow Attn.rowScores
  rw [groupOf_head]
  by_cases h : Attn.sees (n.val = 0) r.val k.val
  · rw [if_pos h, if_pos h]; rfl
  · rw [if_neg h, if_neg h]; rfl

end Cert.ReferenceIdeal.Attn

end
-- ==== Proof.AttnRefOut.lean ====
/- The reference's weights and result, read at an index. -/
module

public import proofs.«01_k».proof.Proof.AttnRefScores
public import Idealize.ShloMosaic.Lib.StableHlo.ReadAt
public import Idealize.ShloMosaic.Lib.Tactic.CleanTypes
public import Idealize.ShloMosaic.Lib.WordCmp

@[expose] public section

noncomputable section

namespace Cert.ReferenceIdeal.Attn

open Cert.ReferenceIdeal Cert.ReferenceIdeal.Gen Cert.ReferenceIdeal.Read
open Idealize.ShloMosaic Idealize.ShloMosaic.TcCoe Idealize.SL.Sem

variable (x0 : (⟨S8x2048x4112, .f32⟩ : BufTy).Contents (Elt Ideal)) (x1 x2 : (⟨S64, .f32⟩ : BufTy).Contents (Elt Ideal)) (x3 : (⟨S16, .f32⟩ : BufTy).Contents (Elt Ideal))

variable (b : Fin 8) (n : Fin 16) (g ρ : Fin 4) (r : Fin 128)

theorem max_at : val_main_v133 (F := Ideal) x0 x1 x2 (ix5 b n g ρ r) =
    Finset.univ.fold max ⊥ (Attn.scoreRow (proj x0) (gain x1) (gain x2) b n r (head g ρ)) := by
  have e : (fun k => val_main_v130 (F := Ideal) x0 x1 x2 (ix6 b n g ρ r k)) = Attn.scoreRow (proj x0) (gain x1) (gain x2) b n r (head g ρ) :=
    funext fun k => masked_at x0 x1 x2 b n g ρ r k
  rw [← e]
  unfold val_main_v133
  generalize val_main_v130 (F := Ideal) x0 x1 x2 = y
  have hr : S8x16x4x4x128x256.Reduces [5] S8x16x4x4x128 := by decide
  rw [Host.reduce_eq_fold, Shape.ReducesTo.drop_eq_drop _ hr, hr.fold_filter_drop_single, val_main_cst_16_apply, neg_inf]
  refine congrArg (fun f => Finset.fold max ⊥ f Finset.univ) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem sink_at (i : S1x1x4x4x1x1.Idx) (h2 : (i 2).val = g.val) (h3 : (i 3).val = ρ.val) : val_main_v132 (F := Ideal) x3 i = sinks x3 (head g ρ) := by
  rw [val_main_v132_apply, val_main_v131_apply]
  exact congrArg x3 (funext fun a => Fin.ext (by match a with | ⟨0, _⟩ => show (i 2).val * 4 + (i 3).val = 4 * g.val + ρ.val; omega))

theorem top_at : val_main_v136 (F := Ideal) x0 x1 x2 x3 (ix6 b n g ρ r 0) =
    Attn.rowTop (Attn.scoreRow (proj x0) (gain x1) (gain x2) b n r (head g ρ)) (sinks x3 (head g ρ)) := by
  rw [val_main_v136_apply, val_main_v134_apply, val_main_v135_apply, sink_at x3 g ρ _ rfl rfl,
    show idx_main_v134 (ix6 b n g ρ r 0) = ix5 b n g ρ r from funext fun a => Fin.ext (by match a with | ⟨0, _⟩ => rfl | ⟨1, _⟩ => rfl | ⟨2, _⟩ => rfl | ⟨3, _⟩ => rfl | ⟨4, _⟩ => rfl),
    max_at]
  rfl

theorem weight_at (k : Fin 256) : val_main_v139 (F := Ideal) x0 x1 x2 x3 (ix6 b n g ρ r k) =
    Ideal.exp (Attn.scoreRow (proj x0) (gain x1) (gain x2) b n r (head g ρ) k -
      Attn.rowTop (Attn.scoreRow (proj x0) (gain x1) (gain x2) b n r (head g ρ)) (sinks x3 (head g ρ))) := by
  rw [val_main_v139_apply, val_main_v138_apply, val_main_v137_apply, masked_at,
    show idx_main_v137 (ix6 b n g ρ r k) = ix6 b n g ρ r 0 from funext fun a => Fin.ext (by match a with | ⟨0, _⟩ => rfl | ⟨1, _⟩ => rfl | ⟨2, _⟩ => rfl | ⟨3, _⟩ => rfl | ⟨4, _⟩ => rfl | ⟨5, _⟩ => rfl),
    top_at]
  rfl

theorem sum_at : val_main_v145 (F := Ideal) x0 x1 x2 x3 (ix6 b n g ρ r 0) =
    Attn.rowSum (Attn.scoreRow (proj x0) (gain x1) (gain x2) b n r (head g ρ)) (sinks x3 (head g ρ)) := by
  rw [val_main_v145_apply, val_main_v144_apply, val_main_v143_apply, val_main_v142_apply, sink_at x3 g ρ _ rfl rfl, top_at, val_main_v141_apply,
    show idx_main_v141 (ix6 b n g ρ r 0) = ix5 b n g ρ r from funext fun a => Fin.ext (by match a with | ⟨0, _⟩ => rfl | ⟨1, _⟩ => rfl | ⟨2, _⟩ => rfl | ⟨3, _⟩ => rfl | ⟨4, _⟩ => rfl),
    val_main_v140_apply, val_main_cst_17_apply, zero_word]
  refine congrArg (· + _) ((zero_add _).trans (Finset.sum_congr rfl fun k _ => ?_))
  rw [show idx_main_v140 (ix5 b n g ρ r) k = ix6 b n g ρ r k from funext fun a => Fin.ext (by match a with | ⟨0, _⟩ => rfl | ⟨1, _⟩ => rfl | ⟨2, _⟩ => rfl | ⟨3, _⟩ => rfl | ⟨4, _⟩ => rfl | ⟨5, _⟩ => rfl),
    weight_at]

theorem softmax_at (k : Fin 256) : val_main_v147 (F := Ideal) x0 x1 x2 x3 (ix6 b n g ρ r k) =
    Ideal.div (Ideal.exp (Attn.scoreRow (proj x0) (gain x1) (gain x2) b n r (head g ρ) k -
        Attn.rowTop (Attn.scoreRow (proj x0) (gain x1) (gain x2) b n r (head g ρ)) (sinks x3 (head g ρ))))
      (Attn.rowSum (Attn.scoreRow (proj x0) (gain x1) (gain x2) b n r (head g ρ)) (sinks x3 (head g ρ))) := by
  rw [val_main_v147_apply, val_main_v146_apply, weight_at,
    show idx_main_v146 (ix6 b n g ρ r k) = ix6 b n g ρ r 0 from funext fun a => Fin.ext (by match a with | ⟨0, _⟩ => rfl | ⟨1, _⟩ => rfl | ⟨2, _⟩ => rfl | ⟨3, _⟩ => rfl | ⟨4, _⟩ => rfl | ⟨5, _⟩ => rfl),
    sum_at]
  rfl

theorem mixed_at (d : Fin 64) : val_main_v148 (F := Ideal) x0 x1 x2 x3 (ix6 b n g d ρ r) =
    ∑ k, Attn.valueRow (proj x0) b n (head g ρ) d k *
      Ideal.div (Ideal.exp (Attn.scoreRow (proj x0) (gain x1) (gain x2) b n r (head g ρ) k -
          Attn.rowTop (Attn.scoreRow (proj x0) (gain x1) (gain x2) b n r (head g ρ)) (sinks x3 (head g ρ))))
        (Attn.rowSum (Attn.scoreRow (proj x0) (gain x1) (gain x2) b n r (head g ρ)) (sinks x3 (head g ρ))) := by
  rw [val_main_v148_apply]
  refine Finset.sum_congr rfl fun k _ => ?_
  rw [show lidx_main_v148 (ix6 b n g d ρ r) k = ix5 b n k g d from funext fun a => Fin.ext (by match a with | ⟨0, _⟩ => rfl | ⟨1, _⟩ => rfl | ⟨2, _⟩ => rfl | ⟨3, _⟩ => rfl | ⟨4, _⟩ => rfl),
    show ridx_main_v148 (ix6 b n g d ρ r) k = ix6 b n g ρ r k from funext fun a => Fin.ext (by match a with | ⟨0, _⟩ => rfl | ⟨1, _⟩ => rfl | ⟨2, _⟩ => rfl | ⟨3, _⟩ => rfl | ⟨4, _⟩ => rfl | ⟨5, _⟩ => rfl),
    values_at, softmax_at]
  unfold Attn.valueRow
  rw [groupOf_head]

/-- The result, at the row and lane of a position and a head's lane. -/
theorem result (R : Fin 16384) (L : Fin 1024) (b : Fin 8) (n : Fin 16) (r : Fin 128) (H : Fin 16) (d : Fin 64)
    (hR : R.val = 2048 * b.val + 128 * n.val + r.val) (hL : L.val = 64 * H.val + d.val) :
    val_main_v152 (F := Ideal) x0 x1 x2 x3 (ix2 R L) =
      ∑ k, Attn.valueRow (proj x0) b n H d k *
        Ideal.div (Ideal.exp (Attn.scoreRow (proj x0) (gain x1) (gain x2) b n r H k - Attn.rowTop (Attn.scoreRow (proj x0) (gain x1) (gain x2) b n r H) (sinks x3 H)))
          (Attn.rowSum (Attn.scoreRow (proj x0) (gain x1) (gain x2) b n r H) (sinks x3 H)) := by
  have hb := b.isLt
  have hn := n.isLt
  have hr := r.isLt
  have hH := H.isLt
  have hd := d.isLt
  have e : H = head ⟨H.val / 4, by omega⟩ ⟨H.val % 4, by omega⟩ := Fin.ext (by show H.val = 4 * (H.val / 4) + H.val % 4; omega)
  rw [e, ← mixed_at]
  unfold val_main_v152 val_main_v151 val_main_v150 val_main_v149
  pointwise
  rw [show (⟨R.val / 2048, by omega⟩ : Fin 8) = b from Fin.ext (by show R.val / 2048 = b.val; omega),
    show (⟨R.val / 128 % 16, by omega⟩ : Fin 16) = n from Fin.ext (by show R.val / 128 % 16 = n.val; omega),
    show (⟨R.val % 128, by omega⟩ : Fin 128) = r from Fin.ext (by show R.val % 128 = r.val; omega),
    show (⟨L.val / 256, by omega⟩ : Fin 4) = ⟨H.val / 4, by omega⟩ from Fin.ext (by show L.val / 256 = H.val / 4; omega),
    show (⟨L.val % 64, by omega⟩ : Fin 64) = d from Fin.ext (by show L.val % 64 = d.val; omega),
    show (⟨L.val / 64 % 4, by omega⟩ : Fin 4) = ⟨H.val % 4, by omega⟩ from Fin.ext (by show L.val / 64 % 4 = H.val % 4; omega)]
  rfl

end Cert.ReferenceIdeal.Attn

end
-- ==== Proof.AttnEq.lean ====
/- Dividing the weighted values by the sum of the weights, or each weight: the same where the weights are real. They are real,
   and not all zero, where the gains are finite and no sink is plus infinity. -/
module

public import proofs.«01_k».proof.Proof.AttnSpec

@[expose] public section

noncomputable section

namespace Cert.Attn

open Idealize.ShloMosaic

/-! ## Real numbers among the extended ones -/

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.neg {x : EReal} : IsReal x → IsReal (-x) := by
  rintro ⟨a, rfl⟩; exact ⟨-a, (EReal.coe_neg a).symm⟩

theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_of_ne {x : EReal} (hb : x ≠ ⊥) (ht : x ≠ ⊤) : IsReal x := ⟨x.toReal, (EReal.coe_toReal ht hb).symm⟩

theorem IsReal.cos {x : EReal} : IsReal x → IsReal (Ideal.cos x) := by rintro ⟨a, rfl⟩; exact ⟨Real.cos a, rfl⟩

theorem IsReal.sin {x : EReal} : IsReal x → IsReal (Ideal.sin x) := by rintro ⟨a, rfl⟩; exact ⟨Real.sin a, rfl⟩

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

theorem sq_infinite {x : EReal} (h : ¬ IsReal x) : x * x = ⊤ := by
  by_cases hb : x = ⊥
  · rw [hb]; exact EReal.bot_mul_bot
  · by_cases ht : x = ⊤
    · rw [ht]; exact EReal.top_mul_top
    · exact absurd (isReal_of_ne hb ht) h

theorem sixtyfourth : Ideal.ofBits .f32 0x3C800000#32 = ((64⁻¹ : ℝ) : EReal) := by simp [Ideal.ofBits, Ideal.ieee, -EReal.coe_mul]; norm_num

theorem epsilon : ∃ ε : ℝ, 0 < ε ∧ Ideal.ofBits .f32 0x358637BD#32 = (ε : EReal) := by
  refine ⟨_, ?_, by simp [Ideal.ofBits, Ideal.ieee, -EReal.coe_mul]; rfl⟩
  norm_num

theorem isReal_eighth : IsReal (Ideal.ofBits .f32 0x3E000000#32) := ⟨8⁻¹, by simp [Ideal.ofBits, Ideal.ieee, -EReal.coe_mul]; norm_num⟩

/-! ## The heads are real where the gains are -/

/-- A head that holds an infinity is divided by infinity; any other by a positive real. -/
theorem headNorm_real (g x : Fin 64 → EReal) (hg : ∀ d, IsReal (g d)) (d : Fin 64) : IsReal (headNorm g x d) := by
  unfold headNorm
  refine IsReal.mul ?_ (hg d)
  obtain ⟨ε, hε, eε⟩ := epsilon
  rw [sixtyfourth, eε]
  by_cases h : ∀ e, IsReal (x e)
  · choose a ha using h
    have e : (∑ e, x e * x e) = ((∑ e, a e * a e : ℝ) : EReal) := by
      rw [coe_sum]
      exact Finset.sum_congr rfl fun e _ => by rw [ha e, EReal.coe_mul]
    have h0 : 0 ≤ ∑ e, a e * a e := Finset.sum_nonneg fun e _ => mul_self_nonneg _
    have hp : 0 < (∑ e, a e * a e) * 64⁻¹ + ε := by positivity
    rw [e, ha d, ← EReal.coe_mul, ← EReal.coe_add]
    refine IsReal.mul ⟨_, rfl⟩ ⟨(Real.sqrt ((∑ e, a e * a e) * 64⁻¹ + ε))⁻¹, ?_⟩
    show (if _ then _ else if _ then _ else _) = _
    rw [if_neg hp.le.not_gt, if_neg hp.ne']
  · obtain ⟨e, he⟩ := not_forall.mp h
    have ht : (∑ e, x e * x e) = ⊤ := by
      refine top_le_iff.mp ?_
      rw [← sq_infinite he]
      exact Finset.single_le_sum (f := fun e => x e * x e) (fun i _ => sq_nonneg (x i)) (Finset.mem_univ e)
    rw [ht, EReal.top_mul_coe_of_pos (by norm_num), EReal.top_add_coe]
    exact ⟨0, by show x d * 0 = _; simp⟩

theorem headRope_real (cos sin : Fin 32 → EReal) (y : Fin 64 → EReal) (hc : ∀ e, IsReal (cos e)) (hs : ∀ e, IsReal (sin e)) (hy : ∀ e, IsReal (y e)) (d : Fin 64) :
    IsReal (headRope cos sin y d) := by
  unfold headRope
  split
  · exact ((hy _).mul (hc _)).sub ((hy _).mul (hs _))
  · exact ((hy _).mul (hc _)).add ((hy _).mul (hs _))

theorem angle_real (s e : ℕ) : IsReal (angle s e) := by
  have h2 : IsReal (Ideal.ofBits .f32 0x40000000#32) := ⟨2, by simp [Ideal.ofBits, Ideal.ieee, -EReal.coe_mul]; norm_num⟩
  have hi : ∀ w : BitVec 32, IsReal (FloatOps.sitofp (F := Ideal) .f32 w) := fun w => ⟨((w.toInt : ℤ) : ℝ), rfl⟩
  have ht : Ideal.ofBits .f32 0x461C4000#32 = ((10000 : ℝ) : EReal) := by simp [Ideal.ofBits, Ideal.ieee, -EReal.coe_mul]; norm_num
  have hl : Ideal.ofBits .f32 0x42800000#32 = ((64 : ℝ) : EReal) := by simp [Ideal.ofBits, Ideal.ieee, -EReal.coe_mul]; norm_num
  unfold angle
  refine (hi _).mul ?_
  obtain ⟨a, ha⟩ := (h2.mul (hi (BitVec.ofNat 32 e))).neg
  rw [ha, ht, hl]
  unfold Ideal.div
  rw [if_neg (by exact_mod_cast (by norm_num : (64 : ℝ) ≠ 0)), ← EReal.coe_inv, ← EReal.coe_mul]
  exact ⟨Real.rpow 10000 (a * 64⁻¹), rfl⟩

variable (X : Proj) (qn kn : Fin 64 → EReal) (sk : Fin 16 → EReal)

theorem qHead_real (hq : ∀ d, IsReal (qn d)) (b : Fin 8) (s : Fin 2048) (H : Fin 16) (d : Fin 64) : IsReal (qHead X qn b s H d) :=
  headRope_real _ _ _ (fun e => (angle_real s.val e.val).cos) (fun e => (angle_real s.val e.val).sin) (headNorm_real _ _ hq) d

theorem kHead_real (hk : ∀ d, IsReal (kn d)) (b : Fin 8) (s : Fin 2048) (g : Fin 4) (d : Fin 64) : IsReal (kHead X kn b s g d) :=
  headRope_real _ _ _ (fun e => (angle_real s.val e.val).cos) (fun e => (angle_real s.val e.val).sin) (headNorm_real _ _ hk) d

theorem blocks_real (f : Fin 2048 → Fin 64 → EReal) (hf : ∀ s d, IsReal (f s d)) (n : Fin 16) (k : Fin 256) (d : Fin 64) : IsReal (blocks f n k d) := by
  unfold blocks window
  split
  · show IsReal (if _ then _ else _)
    split
    · exact ⟨0, rfl⟩
    · exact hf _ _
  · exact hf _ _

theorem seen_real (hq : ∀ d, IsReal (qn d)) (hk : ∀ d, IsReal (kn d)) (b : Fin 8) (n : Fin 16) (r : Fin 128) (H : Fin 16) (k : Fin 256) :
    scoreRow X qn kn b n r H k = ⊥ ∨ IsReal (scoreRow X qn kn b n r H k) := by
  unfold scoreRow rowScores
  by_cases h : sees (n.val = 0) r.val k.val
  · rw [if_pos h]
    exact .inr (IsReal.sum _ _ fun d => ((qHead_real X qn hq b _ H d).mul isReal_eighth).mul (blocks_real _ (fun s d => kHead_real X kn hk b s _ d) n k d))
  · rw [if_neg h]; exact .inl rfl

/-- A row sees its own key. -/
theorem self_real (hq : ∀ d, IsReal (qn d)) (hk : ∀ d, IsReal (kn d)) (b : Fin 8) (n : Fin 16) (r : Fin 128) (H : Fin 16) :
    IsReal (scoreRow X qn kn b n r H ⟨r.val + 128, by omega⟩) := by
  unfold scoreRow rowScores
  rw [if_pos (show sees (n.val = 0) r.val (r.val + 128) from ⟨by omega, le_refl _, fun _ => by omega⟩)]
  exact IsReal.sum _ _ fun d => ((qHead_real X qn hq b _ H d).mul isReal_eighth).mul (blocks_real _ (fun s d => kHead_real X kn hk b s _ d) n _ d)

/-! ## The weights -/

theorem sum_mul_coe {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The exponential of minus infinity or of a real is a nonnegative real, and of a real a positive one. -/
theorem exp_weight (x : EReal) (T : ℝ) (h : x = ⊥ ∨ IsReal x) : ∃ w : ℝ, 0 ≤ w ∧ (IsReal x → 0 < w) ∧ Ideal.exp (x - (T : EReal)) = (w : EReal) := by
  rcases h with rfl | ⟨a, rfl⟩
  · refine ⟨0, le_refl _, fun ⟨r, hr⟩ => absurd hr.symm (EReal.coe_ne_bot r), ?_⟩
    rw [EReal.bot_sub]; rfl
  · refine ⟨Real.exp (a - T), (Real.exp_pos _).le, fun _ => Real.exp_pos _, ?_⟩
    rw [← EReal.coe_sub]; rfl

theorem le_rowTop (s : Fin 256 → EReal) (t : EReal) (k : Fin 256) : s k ≤ rowTop s t :=
  le_max_of_le_left ((Finset.le_fold_max (s k)).mpr (.inr ⟨k, Finset.mem_univ k, le_refl _⟩))

theorem rowTop_real (s : Fin 256 → EReal) (t : EReal) (hs : ∀ k, s k = ⊥ ∨ IsReal (s k)) (k₀ : Fin 256) (h₀ : IsReal (s k₀)) (ht : t ≠ ⊤) : IsReal (rowTop s t) := by
  refine isReal_of_ne (fun e => ?_) (ne_of_lt (max_lt ?_ (lt_top_iff_ne_top.mpr ht)))
  · obtain ⟨a, ha⟩ := h₀
    have := le_rowTop s t k₀
    rw [e, ha] at this
    exact EReal.coe_ne_bot a (le_bot_iff.mp this)
  · refine (Finset.fold_max_lt ⊤).mpr ⟨bot_lt_top, fun k _ => ?_⟩
    rcases hs k with h | ⟨a, h⟩
    · rw [h]; exact bot_lt_top
    · rw [h]; exact EReal.coe_lt_top a

/-- Where the row's top is real, the sum of the weights is a positive real, and it may divide the weighted values or each weight. -/
theorem rowOut_eq (s : Fin 256 → EReal) (t : EReal) (v : Fin 256 → EReal) (hs : ∀ k, s k = ⊥ ∨ IsReal (s k)) (k₀ : Fin 256) (h₀ : IsReal (s k₀)) (ht : t ≠ ⊤) :
    rowOut s t v = ∑ k, v k * Ideal.div (Ideal.exp (s k - rowTop s t)) (rowSum s t) := by
  obtain ⟨T, hT⟩ := rowTop_real s t hs k₀ h₀ ht
  unfold rowOut
  have hD : ∃ D : ℝ, 0 < D ∧ rowSum s t = (D : EReal) := by
    unfold rowSum
    rw [hT]
    choose w hw hp ew using fun k => exp_weight (s k) T (hs k)
    obtain ⟨u, hu, -, eu⟩ := exp_weight t T (by
      by_cases hb : t = ⊥
      · exact .inl hb
      · exact .inr (isReal_of_ne hb ht))
    refine ⟨(∑ k, w k) + u, ?_, ?_⟩
    · have : w k₀ ≤ ∑ k, w k := Finset.single_le_sum (fun k _ => hw k) (Finset.mem_univ k₀)
      have := hp k₀ h₀
      linarith
    · rw [EReal.coe_add, coe_sum, eu]
      exact congrArg (· + _) (Finset.sum_congr rfl fun k _ => ew k)
  obtain ⟨D, hD, eD⟩ := hD
  rw [eD]
  have hd : ∀ x : EReal, Ideal.div x (D : EReal) = x * ((D⁻¹ : ℝ) : EReal) := fun x => by
    unfold Ideal.div
    rw [if_neg (by exact_mod_cast hD.ne'), EReal.coe_inv]
  rw [hd, sum_mul_coe _ _ _ (inv_nonneg.mpr hD.le)]
  refine Finset.sum_congr rfl fun k _ => ?_
  rw [hd, mul_comm (Ideal.exp _), mul_assoc]

end Cert.Attn

end
-- ==== Proof.MlpSpec.lean ====
/- The feed-forward part of the layer over the extended reals: a row divided by its root mean square times the gain,
   the product with the first weights, the squared positive part, the product with the second weights, and the row
   itself added. -/
module

public import Idealize.ShloMosaic.PureOps.Ideal

@[expose] public section

noncomputable section

namespace Mlp

open Idealize.ShloMosaic

/-- A row divided by its root mean square, times the gain. -/
def normRow (x g : Fin 2048 → EReal) (d : Fin 2048) : EReal :=
  x d * Ideal.rsqrt (Ideal.div (∑ e, x e * x e) (Ideal.ofBits .f32 0x45000000#32) + Ideal.ofBits .f32 0x358637BD#32) * g d

/-- The square of the positive part. -/
def sqPos (u : EReal) : EReal := max u 0 * max u 0

/-- A unit of the hidden layer. -/
def unit (h w : Fin 2048 → EReal) : EReal := sqPos (∑ d, h d * w d)

/-- An element of a row of the result: `up f` holds the first weights of unit `f`, `down f` its second weight. -/
def rowOut (x g : Fin 2048 → EReal) (up : Fin 8192 → Fin 2048 → EReal) (down : Fin 8192 → EReal) (c : Fin 2048) : EReal :=
  x c + ∑ f, unit (normRow x g) (up f) * down f

/-- Unit `f` of tile `j` of the hidden layer. -/
def tileUnit (j : Fin 16) (f : Fin 512) : Fin 8192 := ⟨512 * j.val + f.val, by omega⟩

/-- A sum over the hidden layer is the sum of its 16 tiles' sums. -/
theorem sum_tiles (F : Fin 8192 → EReal) : ∑ f, F f = ∑ j, ∑ f, F (tileUnit j f) := by
  rw [← Finset.sum_product', Finset.univ_product_univ]
  refine (Fintype.sum_equiv (finProdFinEquiv (m := 16) (n := 512)) _ F fun p => ?_).symm
  exact congrArg F (Fin.ext (by show 512 * p.1.val + p.2.val = p.2.val + 512 * p.1.val; omega))

/-- The sum of the first tiles, up to tile `j`. -/
def upTo (G : Fin 16 → EReal) (j : ℕ) : EReal := ∑ i ∈ Finset.univ.filter (fun i : Fin 16 => i.val ≤ j), G i

theorem upTo_zero (G : Fin 16 → EReal) : upTo G 0 = G 0 := by
  unfold upTo
  rw [show (Finset.univ.filter fun i : Fin 16 => i.val ≤ 0) = {0} from by decide, Finset.sum_singleton]

theorem upTo_succ (G : Fin 16 → EReal) (j : Fin 16) (h : 0 < j.val) : upTo G j.val = upTo G (j.val - 1) + G j := by
  unfold upTo
  rw [show (Finset.univ.filter fun i : Fin 16 => i.val ≤ j.val) = insert j (Finset.univ.filter fun i : Fin 16 => i.val ≤ j.val - 1) from ?_, Finset.sum_insert, add_comm]
  · intro hm
    have := (Finset.mem_filter.mp hm).2
    omega
  · ext i
    simp only [Finset.mem_filter, Finset.mem_univ, true_and, Finset.mem_insert]
    constructor
    · intro hi
      by_cases e : i.val = j.val
      · exact Or.inl (Fin.ext e)
      · exact Or.inr (by omega)
    · rintro (rfl | hi) <;> omega

theorem upTo_last (G : Fin 16 → EReal) : upTo G 15 = ∑ j, G j := by
  unfold upTo
  rw [Finset.filter_true_of_mem fun i _ => by have := i.isLt; omega]

end Mlp

end
-- ==== Proof.MlpBody.lean ====
/- The feed-forward kernel's body: what the run of one grid point leaves in its output block and in the scratch array,
   at a row block's first point and at every other. -/
module

public import proofs.«01_k».proof.Proof.Gen.Kernel2Ideal.Value
public import proofs.«01_k».proof.Proof.MlpSpec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel2Ideal.Mlp

open Cert.Kernel2Ideal Cert.Kernel2Ideal.Gen
open Idealize.ShloMosaic Idealize.ShloMosaic.TcCoe Idealize.SL.Sem

section
variable {F : FTy → Type} [FloatOps F]

theorem out_B (c : Dev nD) (i : grid0.Coords) (a2 h2 a3 h3 a4 h4 a5 h5 a6 h6 a7 h7) (hc0 : ¬cond0_0 i)
    (x0 : Vec F S1024x2048 .f32) (x1 : Vec F S1x2048 .f32) (x2 : Vec F S1x2048x512 .bf16) (x3 : Vec F S1x512x2048 .bf16) (xo : Vec F S1024x2048 .f32) (xs : Vec F S1024x2048 .bf16) :
    out0_B_4 c i a2 h2 a3 h3 a4 h4 a5 h5 a6 h6 a7 h7 hc0 x0 x1 x2 x3 xo xs = k0_pay3 xs x2 xo x3 := by
  funext y
  unfold out0_B_4
  rw [View.read_writes_eq_canon _ _ _ (fun y => cover0_B_4 c i a2 h2 a3 h3 a4 h4 a5 h5 a6 h6 a7 h7 hc0 x0 x1 x2 x3 xo xs y)]
  unfold kernelRun0_B
  dsimp only
  sl_unfold_words
  simp (disch := decide) only [View.readAt_eq_ld, Memref.IsWhole.read_unread, View.ld_unit_lit']
  exact congrFun (View.canon_cons_unit_lit' _ _ _ (by decide)) y

theorem out_A (c : Dev nD) (i : grid0.Coords) (a2 h2 a3 h3 a4 h4 a5 h5 a6 h6 a7 h7) (hc0 : cond0_0 i)
    (x0 : Vec F S1024x2048 .f32) (x1 : Vec F S1x2048 .f32) (x2 : Vec F S1x2048x512 .bf16) (x3 : Vec F S1x512x2048 .bf16) :
    out0_A_4 c i a2 h2 a3 h3 a4 h4 a5 h5 a6 h6 a7 h7 hc0 x0 x1 x2 x3 = k0_pay3 (k0_pay2 x0 x1) x2 (k0_pay1 x0) x3 := by
  funext y
  unfold out0_A_4
  rw [View.read_writes_eq_canon _ _ _ (fun y => cover0_A_4 c i a2 h2 a3 h3 a4 h4 a5 h5 a6 h6 a7 h7 hc0 x0 x1 x2 x3 y)]
  unfold kernelRun0_A
  dsimp only
  sl_unfold_words
  simp (disch := decide) only [View.readAt_eq_ld, Memref.IsWhole.read_unread, View.ld_unit_lit', ↓ View.readCov_skip, ↓ View.readCov_fill]
  exact congrFun (View.canon_cons_unit_lit' _ _ _ (by decide)) y

theorem left_A (c : Dev nD) (i : grid0.Coords) (a2 h2 a3 h3 a4 h4 a5 h5 a6 h6 a7 h7) (hc0 : cond0_0 i)
    (x0 : Vec F S1024x2048 .f32) (x1 : Vec F S1x2048 .f32) (x2 : Vec F S1x2048x512 .bf16) (x3 : Vec F S1x512x2048 .bf16) :
    sout0_A_0 c i a2 h2 a3 h3 a4 h4 a5 h5 a6 h6 a7 h7 hc0 x0 x1 x2 x3 = k0_pay2 x0 x1 := by
  funext y
  unfold sout0_A_0
  rw [View.read_writes_eq_canon _ _ _ (fun y => scover0_A_0 c i a2 h2 a3 h3 a4 h4 a5 h5 a6 h6 a7 h7 hc0 x0 x1 x2 x3 y)]
  unfold kernelRun0_A
  dsimp only
  sl_unfold_words
  simp (disch := decide) only [View.readAt_eq_ld, Memref.IsWhole.read_unread, View.ld_unit_lit', ↓ View.readCov_skip, ↓ View.readCov_fill]
  exact congrFun (View.canon_cons_unit_lit' _ _ _ (by decide)) y

end

theorem zero_word : Ideal.ofBits .f32 0x00000000#32 = (0 : EReal) := by simp [Ideal.ofBits, Ideal.ieee]

/-- The scratch array holds the normed rows. -/
theorem pay2_apply (x : Vec Ideal S1024x2048 .f32) (g : Vec Ideal S1x2048 .f32) (r : Fin 1024) (d : Fin 2048) :
    k0_pay2 (F := Ideal) x g (ix2 r d) = Mlp.normRow (fun e => x (ix2 r e)) (fun e => g (ix2 0 e)) d := by
  unfold k0_pay2 k0_pay1 Mlp.normRow
  pointwise

/-- A point adds its tile's part of the second product. -/
theorem pay3_apply (h : Vec Ideal S1024x2048 .bf16) (w : Vec Ideal S1x2048x512 .bf16) (o : Vec Ideal S1024x2048 .f32) (v : Vec Ideal S1x512x2048 .bf16) (r : Fin 1024) (c : Fin 2048) :
    k0_pay3 (F := Ideal) h w o v (ix2 r c) = o (ix2 r c) + ∑ f : Fin 512, Mlp.unit (fun d => h (ix2 r d)) (fun d => w (ix3 0 d f)) * v (ix3 0 f c) := by
  unfold k0_pay3 Mlp.unit Mlp.sqPos
  pointwise

end Cert.Kernel2Ideal.Mlp

end
-- ==== Proof.MlpHost.lean ====
/- The feed-forward kernel's output array after the run, read off the arguments: a block of rows gathers, point by
   point, the parts of the second product that the tiles of the hidden layer make. -/
module

public import proofs.«01_k».proof.Proof.MlpBody
public import Idealize.ShloMosaic.Lib.StableHlo.ReadAt

@[expose] public section

noncomputable section

namespace Cert.Kernel2Ideal.Mlp

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-! ## The arguments, and what the host operations make of them -/

/-- Row `R` of the stream: position `R % 2048` of batch `R / 2048`. -/
def row (R : Fin 16384) : Fin 2048 → EReal := fun d => m (c, Proc.tc.devRef main_arg0) (ix3 ⟨R.val / 2048, by omega⟩ ⟨R.val % 2048, by omega⟩ d)
def gain : Fin 2048 → EReal := fun d => m (c, Proc.tc.devRef main_arg1) (ix2 1 d)
def up : Fin 8192 → Fin 2048 → EReal := fun f d => m (c, Proc.tc.devRef main_arg2) (ix3 1 d f)
def down (C : Fin 2048) : Fin 8192 → EReal := fun f => m (c, Proc.tc.devRef main_arg3) (ix3 1 f C)

theorem row_at (R : Fin 16384) (d : Fin 2048) : V m c main_v0 (ix2 R d) = row m c R d := by
  unfold V row
  after_reads_at

theorem gain_at (d : Fin 2048) : V m c main_v5 (ix2 0 d) = gain m c d := by
  unfold V gain
  after_reads_at

theorem up_at (f : Fin 8192) (d : Fin 2048) : V m c main_v1 (ix3 1 d f) = up m c f d := by
  unfold V up
  after_reads_at

theorem down_at (f : Fin 8192) (C : Fin 2048) : V m c main_v2 (ix3 1 f C) = down m c C f := by
  unfold V down
  after_reads_at

/-! ## The blocks that a point reads -/

theorem idx0 : ∀ t : Fin grid0.N, win0_0.index t = ![t.val / 16, 0] := by decide +kernel
theorem idx1 : ∀ t : Fin grid0.N, win0_1.index t = ![0, 0] := by decide +kernel
theorem idx2 : ∀ t : Fin grid0.N, win0_2.index t = ![1, 0, t.val % 16] := by decide +kernel
theorem idx3 : ∀ t : Fin grid0.N, win0_3.index t = ![1, t.val % 16, 0] := by decide +kernel

/-- Row `r` of block `q`. -/
def rowOf (q : Fin 16) (r : Fin 1024) : Fin 16384 := ⟨1024 * q.val + r.val, by omega⟩

theorem blk0 (t : Fin 256) (q j : Fin 16) (ht : t.val = 16 * q.val + j.val) (r : Fin 1024) (d : Fin 2048) : iblk m c 0 t (ix2 r d) = row m c (rowOf q r) d := by
  obtain rfl : q = ⟨t.val / 16, Nat.div_lt_of_lt_mul t.isLt⟩ := Fin.ext (by show q.val = t.val / 16; omega)
  rw [← row_at]
  unfold iblk rowOf
  blk_ext [iblk, idx0 t]

theorem blk1 (t : Fin 256) (d : Fin 2048) : iblk m c 1 t (ix2 0 d) = gain m c d := by
  rw [← gain_at]
  unfold iblk
  blk_ext [iblk, idx1 t]

theorem blk2 (t : Fin 256) (q j : Fin 16) (ht : t.val = 16 * q.val + j.val) (d : Fin 2048) (f : Fin 512) : iblk m c 2 t (ix3 0 d f) = up m c (Mlp.tileUnit j f) d := by
  obtain rfl : j = ⟨t.val % 16, Nat.mod_lt _ (by decide)⟩ := Fin.ext (by show j.val = t.val % 16; omega)
  rw [← up_at]
  unfold iblk Mlp.tileUnit
  blk_ext [iblk, idx2 t]

theorem blk3 (t : Fin 256) (q j : Fin 16) (ht : t.val = 16 * q.val + j.val) (f : Fin 512) (C : Fin 2048) : iblk m c 3 t (ix3 0 f C) = down m c C (Mlp.tileUnit j f) := by
  obtain rfl : j = ⟨t.val % 16, Nat.mod_lt _ (by decide)⟩ := Fin.ext (by show j.val = t.val % 16; omega)
  rw [← down_at]
  unfold iblk Mlp.tileUnit
  blk_ext [iblk, idx3 t]

/-! ## The points of a row block -/

/-- Tile `j`'s part of an element of the second product. -/
def tilePart (R : Fin 16384) (C : Fin 2048) (j : Fin 16) : EReal :=
  ∑ f : Fin 512, Mlp.unit (Mlp.normRow (row m c R) (gain m c)) (up m c (Mlp.tileUnit j f)) * down m c C (Mlp.tileUnit j f)

/-- What a point adds, given that the scratch array holds the normed rows. -/
theorem point_adds (t : Fin 256) (q j : Fin 16) (ht : t.val = 16 * q.val + j.val) (h : Vec Ideal S1024x2048 .bf16)
    (hh : ∀ r d, h (ix2 r d) = Mlp.normRow (row m c (rowOf q r)) (gain m c) d) (o : Vec Ideal S1024x2048 .f32) (r : Fin 1024) (C : Fin 2048) :
    k0_pay3 (F := Ideal) h (iblk m c 2 t) o (iblk m c 3 t) (ix2 r C) = o (ix2 r C) + tilePart m c (rowOf q r) C j := by
  refine (pay3_apply h (iblk m c 2 t) o (iblk m c 3 t) r C).trans ?_
  unfold tilePart
  refine congrArg (o (ix2 r C) + ·) (Finset.sum_congr rfl fun f _ => ?_)
  rw [blk3 m c t q j ht, funext (hh r), funext fun d => blk2 m c t q j ht d f]

theorem scratch_first (t : Fin 256) (q j : Fin 16) (ht : t.val = 16 * q.val + j.val) (r : Fin 1024) (d : Fin 2048) :
    k0_pay2 (F := Ideal) (iblk m c 0 t) (iblk m c 1 t) (ix2 r d) = Mlp.normRow (row m c (rowOf q r)) (gain m c) d := by
  refine (pay2_apply (iblk m c 0 t) (iblk m c 1 t) r d).trans ?_
  rw [funext (blk0 m c t q j ht r), funext (blk1 m c t)]

theorem pay1_apply (x : Vec Ideal S1024x2048 .f32) (r : Fin 1024) (d : Fin 2048) : k0_pay1 (F := Ideal) x (ix2 r d) = x (ix2 r d) := by
  unfold k0_pay1
  pointwise

/-- After point `j` of row block `q`: the normed rows in the scratch array, and in the output block the rows plus the parts
    of the tiles up to `j`. -/
theorem after_point (q : Fin 16) : ∀ (j : ℕ) (hj : j < 16) (n : ℕ) (hn : n < cfg0.N), n = 16 * q.val + j → ∀ r : Fin 1024,
    (∀ d, (outsAt0 m c n hn).2 (ix2 r d) = Mlp.normRow (row m c (rowOf q r)) (gain m c) d)
    ∧ ∀ C, (outsAt0 m c n hn).1 (ix2 r C) = row m c (rowOf q r) C + Mlp.upTo (tilePart m c (rowOf q r) C) j
  | 0, hj, n, hn, e, r => by
    have h0 : n % 16 = 0 := by omega
    rw [outsAt0_A m c ⟨n, hn⟩ h0]
    dsimp only
    rw [left_A, out_A]
    have hs := scratch_first m c ⟨n, hn⟩ q 0 e
    refine ⟨hs r, fun C => ?_⟩
    rw [Mlp.upTo_zero]
    refine (point_adds m c ⟨n, hn⟩ q 0 e _ hs _ r C).trans ?_
    exact congrArg (· + tilePart m c (rowOf q r) C 0) ((pay1_apply _ r C).trans (blk0 m c ⟨n, hn⟩ q 0 e r C))
  | j + 1, hj, n, hn, e, r => by
    have h0 : ¬n % 16 = 0 := by omega
    have ih := after_point q j (by omega) (n - 1) (by omega) (by omega)
    rw [outsAt0_B m c ⟨n, hn⟩ h0]
    dsimp only
    rw [out_B]
    refine ⟨(ih r).1, fun C => ?_⟩
    refine (point_adds m c ⟨n, hn⟩ q ⟨j + 1, hj⟩ e _ (fun r d => (ih r).1 d) _ r C).trans ?_
    rw [(ih r).2 C, show Mlp.upTo (tilePart m c (rowOf q r) C) (j + 1) = _ from Mlp.upTo_succ _ ⟨j + 1, hj⟩ (Nat.succ_pos j), add_assoc]
    rfl

/-- The point that holds row `R` of the result when its row block is done. -/
def ptOf (R : Fin 16384) : Fin cfg0.N := ⟨16 * (R.val / 1024) + 15, by show 16 * (R.val / 1024) + 15 < 256; omega⟩

/-- An element of the output array after the run. -/
theorem result (R : Fin 16384) (C : Fin 2048) : Value.G4 m c (ix2 R C) = Mlp.rowOut (row m c R) (gain m c) (up m c) (down m c C) C := by
  have hp : Value.pt4Of (ix2 R C) = (ptOf R).val := by
    have hC : C.val < 2048 := C.isLt
    show 16 * (1 * (R.val / 1024 - 0) + 1 * (C.val / 2048 - 0)) + 15 = 16 * (R.val / 1024) + 15
    omega
  have hl : Value.loc4Of (ix2 R C) = ix2 ⟨R.val % 1024, Nat.mod_lt _ (by decide)⟩ C := by
    funext a; apply Fin.ext
    match a with
    | ⟨0, _⟩ => rfl
    | ⟨1, _⟩ => show C.val % 2048 = C.val; omega
  have key : Value.G4 m c (ix2 R C) = (outsAt0 m c (ptOf R).val (ptOf R).isLt).1 (ix2 ⟨R.val % 1024, Nat.mod_lt _ (by decide)⟩ C) := by
    unfold Value.G4
    rw [dif_pos (by rw [hp]; exact (ptOf R).isLt), hl]
    have key : ∀ (n : ℕ) (hn : n < cfg0.N), n = (ptOf R).val →
        (Pipeline.accAt (fun n h => Value.stAt0 m c n h Value.junk0) (Value.stAt0 m c) 0 n (by omega)).1 = (outsAt0 m c (ptOf R).val (ptOf R).isLt).1 := by
      intro n hn e; subst e; rw [← Value.outsAt0_sweep]
    exact congrFun (key _ (by rw [hp]; exact (ptOf R).isLt) hp) _
  rw [key, (after_point m c ⟨R.val / 1024, by omega⟩ 15 (by decide) (ptOf R).val (ptOf R).isLt rfl _).2 C, Mlp.upTo_last,
    show rowOf ⟨R.val / 1024, by omega⟩ ⟨R.val % 1024, Nat.mod_lt _ (by decide)⟩ = R from Fin.ext (by show 1024 * (R.val / 1024) + R.val % 1024 = R.val; omega)]
  unfold Mlp.rowOut
  rw [Mlp.sum_tiles]
  rfl

end Cert.Kernel2Ideal.Mlp

end
-- ==== Proof.MlpRef.lean ====
/- The feed-forward reference at an index. -/
module

public import proofs.«01_k».proof.Proof.Gen.Reference2Ideal.Read
public import proofs.«01_k».proof.Proof.MlpSpec
public import Idealize.ShloMosaic.Lib.Pointwise

@[expose] public section

set_option maxRecDepth 16384

noncomputable section

namespace Cert.Reference2Ideal.Mlp

open Cert.Reference2Ideal Cert.Reference2Ideal.Gen Cert.Reference2Ideal.Read
open Idealize.ShloMosaic Idealize.ShloMosaic.TcCoe Idealize.SL.Sem

theorem zero_word : Ideal.ofBits .f32 0x00000000#32 = (0 : EReal) := by simp [Ideal.ofBits, Ideal.ieee]

variable (x0 : (⟨S8x2048x2048, .f32⟩ : BufTy).Contents (Elt Ideal)) (x1 : (⟨S2x2048, .f32⟩ : BufTy).Contents (Elt Ideal))
  (x2 : (⟨S2x2048x8192, .f32⟩ : BufTy).Contents (Elt Ideal)) (x3 : (⟨S2x8192x2048, .f32⟩ : BufTy).Contents (Elt Ideal))

/-- The sum of a row's squares. -/
theorem squares (b : Fin 8) (s : Fin 2048) : val_main_v3 x0 (ix2 b s) = ∑ e : Fin 2048, x0 (ix3 b s e) * x0 (ix3 b s e) := by
  rw [val_main_v3_apply, val_main_cst_apply]
  refine (congrArg (· + _) zero_word).trans ((zero_add _).trans (Finset.sum_congr rfl fun e _ => ?_))
  rw [show idx_main_v3 (ix2 b s) e = ix3 b s e from funext fun a => Fin.ext (by match a with | ⟨0, _⟩ => rfl | ⟨1, _⟩ => rfl | ⟨2, _⟩ => rfl)]
  rfl

/-- The normed row. -/
theorem normed (b : Fin 8) (s d : Fin 2048) : val_main_v14 x0 x1 (ix3 b s d) = Mlp.normRow (fun e => x0 (ix3 b s e)) (fun e => x1 (ix2 1 e)) d := by
  unfold Mlp.normRow
  rw [← squares]
  unfold val_main_v14 val_main_v13 val_main_v12 val_main_v11 val_main_v10 val_main_v9 val_main_v8 val_main_v7 val_main_v6 val_main_v5 val_main_v4 val_main_v1 val_main_v0 val_main_cst_0 val_main_cst_1
  generalize val_main_v3 x0 = q
  pointwise

theorem first (d : Fin 2048) (f : Fin 8192) : val_main_v16 x2 (ix2 d f) = x2 (ix3 1 d f) := by
  unfold val_main_v16 val_main_v15
  pointwise

theorem second (f : Fin 8192) (C : Fin 2048) : val_main_v18 x3 (ix2 f C) = x3 (ix3 1 f C) := by
  unfold val_main_v18 val_main_v17
  pointwise

/-- A unit of the hidden layer. -/
theorem hidden (b : Fin 8) (s : Fin 2048) (f : Fin 8192) :
    val_main_v21 x0 x1 x2 (ix3 b s f) = Mlp.unit (Mlp.normRow (fun e => x0 (ix3 b s e)) (fun e => x1 (ix2 1 e))) (fun d => x2 (ix3 1 d f)) := by
  have e : val_main_v19 x0 x1 x2 (ix3 b s f) = ∑ d : Fin 2048, Mlp.normRow (fun e => x0 (ix3 b s e)) (fun e => x1 (ix2 1 e)) d * x2 (ix3 1 d f) := by
    rw [val_main_v19_apply]
    refine Finset.sum_congr rfl fun d _ => ?_
    rw [← normed, ← first x2]
    exact congrArg₂ (· * ·) (congrArg _ (funext fun a => Fin.ext (by match a with | ⟨0, _⟩ => rfl | ⟨1, _⟩ => rfl | ⟨2, _⟩ => rfl)))
      (congrArg _ (funext fun a => Fin.ext (by match a with | ⟨0, _⟩ => rfl | ⟨1, _⟩ => rfl)))
  unfold Mlp.unit Mlp.sqPos
  rw [← e, ← zero_word]
  unfold val_main_v21 val_main_v20 val_main_call0_v0 val_main_call0_cst
  generalize val_main_v19 x0 x1 x2 = q
  pointwise

/-- An element of the reference's result. -/
theorem result (R : Fin 16384) (C : Fin 2048) :
    val_main_v24 x0 x1 x2 x3 (ix2 R C) = Mlp.rowOut (fun d => x0 (ix3 ⟨R.val / 2048, by omega⟩ ⟨R.val % 2048, by omega⟩ d)) (fun d => x1 (ix2 1 d))
      (fun f d => x2 (ix3 1 d f)) (fun f => x3 (ix3 1 f C)) C := by
  have e (b : Fin 8) (s : Fin 2048) : val_main_v22 x0 x1 x2 x3 (ix3 b s C) =
      ∑ f : Fin 8192, Mlp.unit (Mlp.normRow (fun e => x0 (ix3 b s e)) (fun e => x1 (ix2 1 e))) (fun d => x2 (ix3 1 d f)) * x3 (ix3 1 f C) := by
    rw [val_main_v22_apply]
    refine Finset.sum_congr rfl fun f _ => ?_
    rw [← hidden, ← second x3]
    exact congrArg₂ (· * ·) (congrArg _ (funext fun a => Fin.ext (by match a with | ⟨0, _⟩ => rfl | ⟨1, _⟩ => rfl | ⟨2, _⟩ => rfl)))
      (congrArg _ (funext fun a => Fin.ext (by match a with | ⟨0, _⟩ => rfl | ⟨1, _⟩ => rfl)))
  unfold Mlp.rowOut
  rw [← e]
  unfold val_main_v24 val_main_v23
  generalize val_main_v22 x0 x1 x2 x3 = q
  pointwise

end Cert.Reference2Ideal.Mlp

end
-- ==== Proof.Proj3.lean ====
/- The three products of the mixed rows with their weights: the kernel's output array after the run, and the reference,
   at an index. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val / 16, t.val % 16, 0] ∧ win0_1.index t = ![t.val / 16, 0, 0]
    ∧ win0_2.index t = ![t.val / 16, t.val % 16, 0] := by decide +kernel

abbrev A0 : S3x16384x2048.Idx → EReal := V m c main_v9
abbrev A1 : S3x2048x2048.Idx → EReal := V m c main_v14

/-- The stacked rows times the stacked weights, at an index. -/
def prod : S3x16384x2048.Idx → EReal := fun i =>
  ∑ e : Fin 2048, A0 m c (ix3 (i 0) (i 1) e) * A1 m c (ix3 (i 0) e (i 2))

theorem pay_apply (x : Vec Ideal S1x1024x2048 .bf16) (w : Vec Ideal S1x2048x2048 .bf16) (z : Fin 1) (r : Fin 1024) (l : Fin 2048) :
    k0_pay1 (F := Ideal) x w (ix3 z r l) = ∑ e : Fin 2048, x (ix3 0 r e) * w (ix3 0 e l) := by
  unfold k0_pay1
  pointwise

theorem final : (dats m 0 c).arrAt 2 (cfgs 0).N = prod m c := by
  refine (dats m 0 c).arrAt_eq_of_covers 2 _ (by decide +kernel) fun t _ y => ?_
  blk_simp
  rw [after0_2]
  frame_out
  obtain ⟨z, r, l, rfl⟩ : ∃ (z : Fin 1) (r : Fin 1024) (l : Fin 2048), y = ix3 z r l := ⟨y 0, y 1, y 2, eq_ix3 y⟩
  refine (pay_apply _ _ z r l).trans ?_
  unfold prod
  blk_point [iblk, idx t]

/-! ## The arguments, and what the host operations make of them -/

def rows (k : Fin 3) (R : Fin 16384) (e : Fin 2048) : EReal :=
  match k with
  | 0 => m (c, Proc.tc.devRef main_arg0) (ix3 ⟨R.val / 2048, by omega⟩ ⟨R.val % 2048, by omega⟩ e)
  | 1 => m (c, Proc.tc.devRef main_arg1) (ix3 ⟨R.val / 2048, by omega⟩ ⟨R.val % 2048, by omega⟩ e)
  | 2 => m (c, Proc.tc.devRef main_arg2) (ix3 ⟨R.val / 2048, by omega⟩ ⟨R.val % 2048, by omega⟩ e)

def weights (k : Fin 3) (e l : Fin 2048) : EReal :=
  match k with
  | 0 => m (c, Proc.tc.devRef main_arg3) (ix2 e l)
  | 1 => m (c, Proc.tc.devRef main_arg4) (ix2 e l)
  | 2 => m (c, Proc.tc.devRef main_arg5) (ix2 e l)

theorem rows_at (k : Fin 3) (R : Fin 16384) (e : Fin 2048) : V m c main_v9 (ix3 k R e) = rows m c k R e := by
  unfold V
  match k with
  | 0 => after_reads_at; after_reads_at; rfl
  | 1 => after_reads_at; after_reads_at; rfl
  | 2 => after_reads_at; after_reads_at; rfl

theorem weights_at (k : Fin 3) (e l : Fin 2048) : V m c main_v14 (ix3 k e l) = weights m c k e l := by
  unfold V
  match k with
  | 0 => after_reads_at; after_reads_at; rfl
  | 1 => after_reads_at; after_reads_at; rfl
  | 2 => after_reads_at; after_reads_at; rfl

/-- An element of the kernel's output array. -/
theorem result (k : Fin 3) (R : Fin 16384) (l : Fin 2048) :
    prod m c (ix3 k R l) = ∑ e : Fin 2048, rows m c k R e * weights m c k e l :=
  Finset.sum_congr rfl fun e _ => congrArg₂ (· * ·) (rows_at m c k R e) (weights_at m c k e l)

end Cert.Kernel3Ideal.Proj

namespace Cert.Reference3Ideal.Proj

open Cert.Reference3Ideal Cert.Reference3Ideal.Gen Cert.Reference3Ideal.Read
open Idealize.ShloMosaic Idealize.ShloMosaic.TcCoe Idealize.SL.Sem

variable (x0 x1 x2 : (⟨S8x2048x2048, .f32⟩ : BufTy).Contents (Elt Ideal)) (x3 x4 x5 : (⟨S2048x2048, .f32⟩ : BufTy).Contents (Elt Ideal))

def rows (k : Fin 3) (R : Fin 16384) (e : Fin 2048) : EReal :=
  match k with
  | 0 => x0 (ix3 ⟨R.val / 2048, by omega⟩ ⟨R.val % 2048, by omega⟩ e)
  | 1 => x1 (ix3 ⟨R.val / 2048, by omega⟩ ⟨R.val % 2048, by omega⟩ e)
  | 2 => x2 (ix3 ⟨R.val / 2048, by omega⟩ ⟨R.val % 2048, by omega⟩ e)

def weights (k : Fin 3) (e l : Fin 2048) : EReal :=
  match k with
  | 0 => x3 (ix2 e l)
  | 1 => x4 (ix2 e l)
  | 2 => x5 (ix2 e l)

/-- An element of the reference's result. -/
theorem result (k : Fin 3) (R : Fin 16384) (l : Fin 2048) :
    val_main_v10 x0 x1 x2 x3 x4 x5 (ix3 k R l) = ∑ e : Fin 2048, rows x0 x1 x2 k R e * weights x3 x4 x5 k e l := by
  unfold val_main_v10 val_main_v9 val_main_v8 val_main_v7 val_main_v6 val_main_v5 val_main_v4 val_main_v3 val_main_v2 val_main_v1 val_main_v0
  match k with
  | 0 => pointwise; rfl
  | 1 => pointwise; rfl
  | 2 => pointwise; rfl

end Cert.Reference3Ideal.Proj

end
-- ==== Proof.ProjSums.lean ====
/- Sums of products, split in two halves. -/
module

public import Idealize.ShloMosaic.PureOps.Ideal

@[expose] public section

noncomputable section

namespace Proj

/-- A sum over 2048 is the sum over its first half plus the sum over its second. -/
theorem sum_halves (F : Fin 2048 → EReal) :
    ∑ k, F k = ∑ k : Fin 1024, F ⟨k.val, by omega⟩ + ∑ k : Fin 1024, F ⟨1024 + k.val, by omega⟩ :=
  Fin.sum_univ_add (a := 1024) (b := 1024) F

end Proj

end
-- ==== Proof.Proj4.lean ====
/- The residual sum with the two head groups' product: the kernel's output array after the run, and the reference, at an
   index. -/
module

public import proofs.«01_k».proof.Proof.Gen.Kernel4Ideal.Value
public import proofs.«01_k».proof.Proof.Gen.Reference4Ideal.Read
public import proofs.«01_k».proof.Proof.ProjSums
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel4Ideal.Proj

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by decide +kernel

abbrev A0 : S16384x2048.Idx → EReal := V m c main_v0
abbrev A1 : S16384x1024.Idx → EReal := V m c main_v2
abbrev A2 : S16384x1024.Idx → EReal := V m c main_v4
abbrev A3 : S1024x2048.Idx → EReal := V m c main_v6
abbrev A4 : S1024x2048.Idx → EReal := V m c main_v7

/-- The rows plus both groups' products, at an index. -/
def total : S16384x2048.Idx → EReal := fun i =>
  A0 m c (ix2 (i 0) (i 1)) + ∑ e : Fin 1024, A1 m c (ix2 (i 0) e) * A3 m c (ix2 e (i 1))
    + ∑ e : Fin 1024, A2 m c (ix2 (i 0) e) * A4 m c (ix2 e (i 1))

theorem pay_apply (x : Vec Ideal S512x2048 .f32) (a : Vec Ideal S512x1024 .bf16) (v : Vec Ideal S1024x2048 .bf16) (b : Vec Ideal S512x1024 .bf16) (w : Vec Ideal S1024x2048 .bf16)
    (r : Fin 512) (l : Fin 2048) :
    k0_pay1 (F := Ideal) x a v b w (ix2 r l) = x (ix2 r l) + ∑ e : Fin 1024, a (ix2 r e) * v (ix2 e l) + ∑ e : Fin 1024, b (ix2 r e) * w (ix2 e l) := by
  unfold k0_pay1
  pointwise

theorem final : (dats m 0 c).arrAt 5 (cfgs 0).N = total m c := by
  refine (dats m 0 c).arrAt_eq_of_covers 5 _ (by decide +kernel) fun t _ y => ?_
  blk_simp
  rw [after0_5]
  frame_out
  obtain ⟨r, l, rfl⟩ : ∃ (r : Fin 512) (l : Fin 2048), y = ix2 r l := ⟨y 0, y 1, eq_ix2 y⟩
  refine (pay_apply _ _ _ _ _ r l).trans ?_
  unfold total
  blk_point [iblk, idx t]

/-! ## The arguments, and what the host operations make of them -/

def row (R : Fin 16384) (l : Fin 2048) : EReal := m (c, Proc.tc.devRef main_arg0) (ix3 ⟨R.val / 2048, by omega⟩ ⟨R.val % 2048, by omega⟩ l)
def first (R : Fin 16384) (e : Fin 1024) : EReal := m (c, Proc.tc.devRef main_arg1) (ix3 ⟨R.val / 2048, by omega⟩ ⟨R.val % 2048, by omega⟩ e)
def second (R : Fin 16384) (e : Fin 1024) : EReal := m (c, Proc.tc.devRef main_arg2) (ix3 ⟨R.val / 2048, by omega⟩ ⟨R.val % 2048, by omega⟩ e)
def weights (e l : Fin 2048) : EReal := m (c, Proc.tc.devRef main_arg3) (ix2 e l)

theorem row_at (R : Fin 16384) (l : Fin 2048) : V m c main_v0 (ix2 R l) = row m c R l := by
  unfold V row
  after_reads_at

theorem first_at (R : Fin 16384) (e : Fin 1024) : V m c main_v2 (ix2 R e) = first m c R e := by
  unfold V first
  after_reads_at

theorem second_at (R : Fin 16384) (e : Fin 1024) : V m c main_v4 (ix2 R e) = second m c R e := by
  unfold V second
  after_reads_at

theorem upper_at (e : Fin 1024) (l : Fin 2048) : V m c main_v6 (ix2 e l) = weights m c ⟨e.val, by omega⟩ l := by
  unfold V weights
  after_reads_at

theorem lower_at (e : Fin 1024) (l : Fin 2048) : V m c main_v7 (ix2 e l) = weights m c ⟨1024 + e.val, by omega⟩ l := by
  unfold V weights
  after_reads_at

/-- An element of the kernel's output array. -/
theorem result (R : Fin 16384) (l : Fin 2048) : (dats m 0 c).arrAt 5 (cfgs 0).N (ix2 R l) =
    row m c R l + (∑ e : Fin 1024, first m c R e * weights m c ⟨e.val, by omega⟩ l + ∑ e : Fin 1024, second m c R e * weights m c ⟨1024 + e.val, by omega⟩ l) := by
  rw [final, ← add_assoc]
  exact congrArg₂ (· + ·) (congrArg₂ (· + ·) (row_at m c R l) (Finset.sum_congr rfl fun e _ => congrArg₂ (· * ·) (first_at m c R e) (upper_at m c e l)))
    (Finset.sum_congr rfl fun e _ => congrArg₂ (· * ·) (second_at m c R e) (lower_at m c e l))

end Cert.Kernel4Ideal.Proj

namespace Cert.Reference4Ideal.Proj

open Cert.Reference4Ideal Cert.Reference4Ideal.Gen Cert.Reference4Ideal.Read
open Idealize.ShloMosaic Idealize.ShloMosaic.TcCoe Idealize.SL.Sem

variable (x0 : (⟨S8x2048x2048, .f32⟩ : BufTy).Contents (Elt Ideal)) (x1 x2 : (⟨S8x2048x1024, .f32⟩ : BufTy).Contents (Elt Ideal)) (x3 : (⟨S2048x2048, .f32⟩ : BufTy).Contents (Elt Ideal))

theorem joined_lo (b : Fin 8) (s : Fin 2048) (e : Fin 1024) : val_main_v0 x1 x2 (ix3 b s ⟨e.val, by omega⟩) = x1 (ix3 b s e) := by
  unfold val_main_v0
  pointwise

theorem joined_hi (b : Fin 8) (s : Fin 2048) (e : Fin 1024) : val_main_v0 x1 x2 (ix3 b s ⟨1024 + e.val, by omega⟩) = x2 (ix3 b s e) := by
  unfold val_main_v0
  pointwise

/-- An element of the reference's result. -/
theorem result (R : Fin 16384) (l : Fin 2048) : val_main_v3 x0 x1 x2 x3 (ix2 R l) =
    x0 (ix3 ⟨R.val / 2048, by omega⟩ ⟨R.val % 2048, by omega⟩ l)
      + (∑ e : Fin 1024, x1 (ix3 ⟨R.val / 2048, by omega⟩ ⟨R.val % 2048, by omega⟩ e) * x3 (ix2 ⟨e.val, by omega⟩ l)
        + ∑ e : Fin 1024, x2 (ix3 ⟨R.val / 2048, by omega⟩ ⟨R.val % 2048, by omega⟩ e) * x3 (ix2 ⟨1024 + e.val, by omega⟩ l)) := by
  simp only [← joined_lo x1 x2, ← joined_hi x1 x2]
  rw [← Proj.sum_halves fun k => val_main_v0 x1 x2 (ix3 ⟨R.val / 2048, by omega⟩ ⟨R.val % 2048, by omega⟩ k) * x3 (ix2 k l)]
  unfold val_main_v3 val_main_v2 val_main_v1
  generalize val_main_v0 x1 x2 = q
  pointwise

end Cert.Reference4Ideal.Proj

end
-- ==== Proof.Proj5.lean ====
/- The residual sum with the recurrence's product: the kernel's output array after the run, and the reference, at an
   index. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel5Ideal.Proj

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![t.val, 0] ∧ win0_2.index t = ![0, 0]
    ∧ win0_3.index t = ![t.val, 0] := by decide +kernel

abbrev A0 : S16384x2048.Idx → EReal := V m c main_v0
abbrev A1 : S16384x2048.Idx → EReal := V m c main_v2
abbrev A2 : S2048x2048.Idx → EReal := V m c main_v3

/-- The rows plus the product, at an index. -/
def total : S16384x2048.Idx → EReal := fun i =>
  A0 m c (ix2 (i 0) (i 1)) + ∑ e : Fin 2048, A1 m c (ix2 (i 0) e) * A2 m c (ix2 e (i 1))

theorem pay_apply (x : Vec Ideal S512x2048 .f32) (a : Vec Ideal S512x2048 .bf16) (w : Vec Ideal S2048x2048 .bf16) (r : Fin 512) (l : Fin 2048) :
    k0_pay1 (F := Ideal) x a w (ix2 r l) = x (ix2 r l) + ∑ e : Fin 2048, a (ix2 r e) * w (ix2 e l) := by
  unfold k0_pay1
  pointwise

theorem final : (dats m 0 c).arrAt 3 (cfgs 0).N = total m c := by
  refine (dats m 0 c).arrAt_eq_of_covers 3 _ (by decide +kernel) fun t _ y => ?_
  blk_simp
  rw [after0_3]
  frame_out
  obtain ⟨r, l, rfl⟩ : ∃ (r : Fin 512) (l : Fin 2048), y = ix2 r l := ⟨y 0, y 1, eq_ix2 y⟩
  refine (pay_apply _ _ _ r l).trans ?_
  unfold total
  blk_point [iblk, idx t]

/-! ## The arguments, and what the host operations make of them -/

def row (R : Fin 16384) (l : Fin 2048) : EReal := m (c, Proc.tc.devRef main_arg0) (ix3 ⟨R.val / 2048, by omega⟩ ⟨R.val % 2048, by omega⟩ l)
def mixed (R : Fin 16384) (e : Fin 2048) : EReal := m (c, Proc.tc.devRef main_arg1) (ix3 ⟨R.val / 2048, by omega⟩ ⟨R.val % 2048, by omega⟩ e)
def weights (e l : Fin 2048) : EReal := m (c, Proc.tc.devRef main_arg2) (ix2 e l)

theorem row_at (R : Fin 16384) (l : Fin 2048) : V m c main_v0 (ix2 R l) = row m c R l := by
  unfold V row
  after_reads_at

theorem mixed_at (R : Fin 16384) (e : Fin 2048) : V m c main_v2 (ix2 R e) = mixed m c R e := by
  unfold V mixed
  after_reads_at

theorem weights_at (e l : Fin 2048) : V m c main_v3 (ix2 e l) = weights m c e l := by
  unfold V weights
  after_reads_at

/-- An element of the kernel's output array. -/
theorem result (R : Fin 16384) (l : Fin 2048) : (dats m 0 c).arrAt 3 (cfgs 0).N (ix2 R l) =
    row m c R l + ∑ e : Fin 2048, mixed m c R e * weights m c e l := by
  rw [final]
  exact congrArg₂ (· + ·) (row_at m c R l) (Finset.sum_congr rfl fun e _ => congrArg₂ (· * ·) (mixed_at m c R e) (weights_at m c e l))

end Cert.Kernel5Ideal.Proj

namespace Cert.Reference5Ideal.Proj

open Cert.Reference5Ideal Cert.Reference5Ideal.Gen Cert.Reference5Ideal.Read
open Idealize.ShloMosaic Idealize.ShloMosaic.TcCoe Idealize.SL.Sem

variable (x0 x1 : (⟨S8x2048x2048, .f32⟩ : BufTy).Contents (Elt Ideal)) (x2 : (⟨S2048x2048, .f32⟩ : BufTy).Contents (Elt Ideal))

/-- An element of the reference's result. -/
theorem result (R : Fin 16384) (l : Fin 2048) : val_main_v2 x0 x1 x2 (ix2 R l) =
    x0 (ix3 ⟨R.val / 2048, by omega⟩ ⟨R.val % 2048, by omega⟩ l)
      + ∑ e : Fin 2048, x1 (ix3 ⟨R.val / 2048, by omega⟩ ⟨R.val % 2048, by omega⟩ e) * x2 (ix2 e l) := by
  unfold val_main_v2 val_main_v1 val_main_v0
  pointwise

end Cert.Reference5Ideal.Proj

end
-- ==== Proof.NormRun.lean ====
/- The body of the kernel that norms and projects, run at one grid point: at a row block's first point it norms the rows into
   the scratch array and stores the side product; at every point it stores its tile of the product of the normed rows. -/
module

public import proofs.«01_k».proof.Proof.Gen.Kernel6Ideal.Launch
public import Idealize.ShloMosaic.Lib.Pipeline.FrameBody
public import Idealize.ShloMosaic.Lib.Pipeline.TableIdle
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.Kernel6Ideal.Norm

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body stores -/

/-- One over the root mean square of each row. -/
def scales (x : Vec F S1024x2048 .f32) : FVec F S1024x1 .f32 :=
  have x' : FVec F S1024x2048 .f32 := shapeCast S1024x2048 x shapeCasts_S1024x2048_S1024x2048
  have sums : FVec F S1024 .f32 := multiReduction .add [1] S1024 (mulf x' x') 0x00000000#32 reduces_S1024x2048_S1024 (.inl rfl) rfl
  rsqrt (addf (divf (shapeCast S1024x1 sums shapeCasts_S1024_S1024x1) (broadcast S1024x1 (Scalar.ofBits .f32 0x45000000#32)))
    (broadcast S1024x1 (Scalar.ofBits .f32 0x358637BD#32)))

/-- The normed rows. -/
def normed (x : Vec F S1024x2048 .f32) (g : Vec F S1x2048 .f32) : FVec F S1024x2048 .bf16 :=
  have x' : FVec F S1024x2048 .f32 := shapeCast S1024x2048 x shapeCasts_S1024x2048_S1024x2048
  have g' : FVec F S1x2048 .f32 := shapeCast S1x2048 g shapeCasts_S1x2048_S1x2048
  shapeCast S1024x2048
    (truncf .bf16 (mulf (mulf x' (broadcastTo S1024x2048 (scales x) broadcasts_S1024x1_S1024x2048)) (broadcastTo S1024x2048 g' broadcasts_S1x2048_S1024x2048)) bitsLt_bf16_f32)
    shapeCasts_S1024x2048_S1024x2048

/-- The side product. -/
def side (h : Vec F S1024x2048 .bf16) (w : Vec F S2048x128 .bf16) : FVec F S1024x128 .f32 :=
  matmul dot_S1024x2048_S2048x128_S1024x128_1_0_0_1_n_n none h (shapeCast S2048x128 w shapeCasts_S2048x128_S2048x128 : FVec F S2048x128 .bf16) (constant S1024x128 .f32 0x00000000#32)

/-- A tile of the product. -/
def tile (h : Vec F S1024x2048 .bf16) (w : Vec F S2048x1024 .bf16) : FVec F S1024x1024 .bf16 :=
  truncf .bf16 (matmul dot_S1024x2048_S2048x1024_S1024x1024_1_0_0_1_n_n none h (shapeCast S2048x1024 w shapeCasts_S2048x1024_S2048x1024 : FVec F S2048x1024 .bf16) (constant S1024x1024 .f32 0x00000000#32)) bitsLt_bf16_f32

/-! ## The body over those names -/

variable (i : grid0.Coords) (arg2 : Memref sig .tc .vmem S1024x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S2048x128 .bf16) (harg5 : arg5.IsWhole)
  (arg6 : Memref sig .tc .vmem S1024x1024 .bf16) (harg6 : arg6.IsWhole) (arg7 : Memref sig .tc .vmem S1024x128 .f32) (harg7 : arg7.IsWhole)
  (arg8 : Memref sig .tc .vmem S1024x2048 .bf16) (harg8 : arg8.IsWhole)

/-- The body's loads and stores. -/
def body : Prog (TpuEff nD τ sig (Elt F) Λ₀ .tc) PUnit := do
  if k0_h1 : k0_cond1 i = 1#1 then do
    let x : Vec F S1024x2048 .f32 ← Prog.lift (.load arg2 (Rect.unit (s := S1024x2048) ![0, 0] S1024x2048.size inb_S1024x2048_S1024x2048_0_0).toLoadRect (View.loadsAt_vmem h_S1024x2048))
    let g : Vec F S1x2048 .f32 ← Prog.lift (.load arg3 (Rect.unit (s := S1x2048) ![0, 0] S1x2048.size inb_S1x2048_S1x2048_0_0).toLoadRect (View.loadsAt_vmem h_S1x2048))
    let _ : Vec F S1024x2048 .bf16 ← Prog.lift (.load arg8 (Rect.unit (s := S1024x2048) ![0, 0] S1024x2048.size inb_S1024x2048_S1024x2048_0_0).toLoadRect (View.loadsAt_vmem h_S1024x2048))
    Prog.lift (.store arg8 (Rect.unit (s := S1024x2048) ![0, 0] S1024x2048.size inb_S1024x2048_S1024x2048_0_0) (normed x g) Finset.univ (View.stores_vmem h_S1024x2048 (harg8.storeExact_slice rfl _ packedbf16_S1024x2048_S1024x2048_0_0) (fun _ => rfl)) (.inl rfl))
    let h : Vec F S1024x2048 .bf16 ← Prog.lift (.load arg8 (Rect.unit (s := S1024x2048) ![0, 0] S1024x2048.size inb_S1024x2048_S1024x2048_0_0).toLoadRect (View.loadsAt_vmem h_S1024x2048))
    let w : Vec F S2048x128 .bf16 ← Prog.lift (.load arg5 (Rect.unit (s := S2048x128) ![0, 0] S2048x128.size inb_S2048x128_S2048x128_0_0).toLoadRect (View.loadsAt_vmem h_S2048x128))
    let _ : Vec F S1024x128 .f32 ← Prog.lift (.load arg7 (Rect.unit (s := S1024x128) ![0, 0] S1024x128.size inb_S1024x128_S1024x128_0_0).toLoadRect (View.loadsAt_vmem h_S1024x128))
    Prog.lift (.store arg7 (Rect.unit (s := S1024x128) ![0, 0] S1024x128.size inb_S1024x128_S1024x128_0_0) (side h w) Finset.univ (View.stores_vmem_bits_univ h_S1024x128 rfl) (.inl rfl))
    pure ⟨⟩
  else do
    pure ⟨⟩
  let h : Vec F S1024x2048 .bf16 ← Prog.lift (.load arg8 (Rect.unit (s := S1024x2048) ![0, 0] S1024x2048.size inb_S1024x2048_S1024x2048_0_0).toLoadRect (View.loadsAt_vmem h_S1024x2048))
  let w : Vec F S2048x1024 .bf16 ← Prog.lift (.load arg4 (Rect.unit (s := S2048x1024) ![0, 0] S2048x1024.size inb_S2048x1024_S2048x1024_0_0).toLoadRect (View.loadsAt_vmem h_S2048x1024))
  let _ : Vec F S1024x1024 .bf16 ← Prog.lift (.load arg6 (Rect.unit (s := S1024x1024) ![0, 0] S1024x1024.size inb_S1024x1024_S1024x1024_0_0).toLoadRect (View.loadsAt_vmem h_S1024x1024))
  Prog.lift (.store arg6 (Rect.unit (s := S1024x1024) ![0, 0] S1024x1024.size inb_S1024x1024_S1024x1024_0_0) (tile h w) Finset.univ (View.stores_vmem h_S1024x1024 (harg6.storeExact_slice rfl _ packedbf16_S1024x1024_S1024x1024_0_0) (fun _ => rfl)) (.inl rfl))
  pure ⟨⟩

set_option maxRecDepth 65536 in
theorem body_eq : cc0_norm_matmul (F := F) i arg2 harg2 arg3 harg3 arg4 harg4 arg5 harg5 arg6 harg6 arg7 harg7 arg8 harg8
    = body i arg2 arg3 arg4 arg5 arg6 harg6 arg7 arg8 harg8 := rfl

/-! ## Its run -/

/-- A buffer whose last store filled it holds what was stored. -/
theorem read_filled {S : Shape} {e : EltTy} (v : View sig .tc .vmem S e) (f : v.ty.Contents (Elt F)) {off : Fin S.rank → ℕ} (hin : ∀ a, off a + S.size a ≤ S.size a)
    (d : Vec F S e) (hoff : ∀ a, off a = 0) :
    v.read (Elt F) (v.writes (Elt F) f [⟨Rect.unit off S.size hin, d⟩]) = d :=
  (View.read_writes_eq_canon v f _ fun y => ⟨_, List.mem_singleton_self _, View.mem_set_unit_zero (funext hoff) hin y⟩).trans (View.canon_cons_unit_lit' hin d [] hoff)

/-- A whole buffer at the raw contents that read as `x` holds `x`. -/
theorem holds {S : Shape} {e : EltTy} (c : Dev nD) (a : Memref sig .tc .vmem S e) (ha : a.IsWhole) (x : Vec F S e) :
    (a.view.loc (c : Thread nD τ) ↦[a.view.set]{fullShare} ha.unread x) ⊢ (iprop(∃ f, ⌜a.view.read (Elt F) f = x⌝ ∗ a.view.loc (c : Thread nD τ) ↦[a.view.set]{fullShare} f) : sProp 𝕄) := by
  iintro H
  iexists _; isplitr
  · ipureintro; exact ha.read_unread _
  iexact H

/-- A buffer that a store filled holds what was stored. -/
theorem holds_filled {S : Shape} {e : EltTy} (c : Dev nD) (a : Memref sig .tc .vmem S e) (f : a.view.ty.Contents (Elt F)) {off : Fin S.rank → ℕ}
    (hin : ∀ a, off a + S.size a ≤ S.size a) (d d' : Vec F S e) (hoff : ∀ a, off a = 0) (hd : d' = d) :
    (a.view.loc (c : Thread nD τ) ↦[a.view.set]{fullShare} a.view.writes (Elt F) f [⟨Rect.unit off S.size hin, d'⟩]) ⊢ (iprop(∃ f, ⌜a.view.read (Elt F) f = d⌝ ∗ a.view.loc (c : Thread nD τ) ↦[a.view.set]{fullShare} f) : sProp 𝕄) := by
  subst hd
  iintro H
  iexists _; isplitr
  swap; · iexact H
  ipureintro
  exact read_filled a.view f hin d' hoff

set_option maxHeartbeats 1000000 in
/-- At a row block's first point. -/
theorem run_first (c : Dev nD) (x : Vec F S1024x2048 .f32) (g : Vec F S1x2048 .f32) (w : Vec F S2048x1024 .bf16) (ws : Vec F S2048x128 .bf16) (E : Set ℕ) (K : PUnit → sProp 𝕄)
    (hc : k0_cond1 i = 1#1) :
    iprop(owns (c : Thread nD τ) arg2 fullShare x ∗ owns (c : Thread nD τ) arg3 fullShare g ∗ owns (c : Thread nD τ) arg4 fullShare w ∗ owns (c : Thread nD τ) arg5 fullShare ws
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare ws
          ∗ owns (c : Thread nD τ) arg6 fullShare (tile (normed x g) w) ∗ owns (c : Thread nD τ) arg7 fullShare (side (normed x g) ws) ∗ owns (c : Thread nD τ) arg8 fullShare (normed x g)) -∗ K ⟨⟩))
      ⊢ wp frame (wpE (defs₀ (F := F)) Variants.none c none) E (cc0_norm_matmul i arg2 harg2 arg3 harg3 arg4 harg4 arg5 harg5 arg6 harg6 arg7 harg7 arg8 harg8) K := by
  rw [body_eq]; unfold body
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]; · iapply (holds c arg2 harg2 x); iexact H0
  isplitl [H1]; · iapply (holds c arg3 harg3 g); iexact H1
  isplitl [H2]; · iapply (holds c arg4 harg4 w); iexact H2
  isplitl [H3]; · iapply (holds c arg5 harg5 ws); iexact H3
  sl_unfold_words
  simp (disch := decide) only [View.readAt_eq_ld, Memref.IsWhole.read_unread, View.ld_unit_lit', ↓ View.readCov_skip, ↓ View.readCov_fill]
  isplitl [H4]; · iapply (holds_filled c arg6 f4 inb_S1024x1024_S1024x1024_0_0 (tile (normed x g) w) _ (by decide) rfl); iexact H4
  isplitl [H5]; · iapply (holds_filled c arg7 f5 inb_S1024x128_S1024x128_0_0 (side (normed x g) ws) _ (by decide) rfl); iexact H5
  iapply (holds_filled c arg8 f6 inb_S1024x2048_S1024x2048_0_0 (normed x g) _ (by decide) rfl); iexact H6

set_option maxHeartbeats 1000000 in
/-- At the other points, with the normed rows `h` in the scratch array; the side product's block is left alone. -/
theorem run_next (c : Dev nD) (w : Vec F S2048x1024 .bf16) (E : Set ℕ) (K : PUnit → sProp 𝕄) (hc : ¬k0_cond1 i = 1#1) (h : Vec F S1024x2048 .bf16) :
    iprop(owns (c : Thread nD τ) arg4 fullShare w ∗ (∃ d, owns (c : Thread nD τ) arg6 fullShare d) ∗ owns (c : Thread nD τ) arg8 fullShare h
        ∗ (iprop(owns (c : Thread nD τ) arg4 fullShare w ∗ owns (c : Thread nD τ) arg6 fullShare (tile h w) ∗ owns (c : Thread nD τ) arg8 fullShare h) -∗ K ⟨⟩))
      ⊢ wp frame (wpE (defs₀ (F := F)) Variants.none c none) E (cc0_norm_matmul i arg2 harg2 arg3 harg3 arg4 harg4 arg5 harg5 arg6 harg6 arg7 harg7 arg8 harg8) K := by
  rw [body_eq]; unfold body
  unfold owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := sl_exact hc)
  sl_step
  iapply Hk
  isplitl [H2]; · iapply (holds c arg4 harg4 w); iexact H2
  isplitl [H4]
  · sl_unfold_words
    simp (disch := decide) only [View.readAt_eq_ld, Memref.IsWhole.read_unread, View.ld_unit_lit']
    iapply (holds_filled c arg6 f4 inb_S1024x1024_S1024x1024_0_0 (tile h w) _ (by decide) rfl); iexact H4
  iapply (holds c arg8 harg8 h); iexact H6

end Cert.Kernel6Ideal.Norm

end
-- ==== Proof.NormFrame.lean ====
/- The launch of the kernel that norms and projects: what the scratch array and the output blocks hold after each grid point,
   and the run. The side product's block is stored at a row block's first point, kept through the other three and written
   back at the last. -/
module

public import proofs.«01_k».proof.Proof.NormRun

@[expose] public section

set_option maxRecDepth 16384

noncomputable section

namespace Cert.Kernel6Ideal.Norm

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- Core `c`'s buffers when the launch is entered. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument. -/
theorem V_arg (c : Dev nD) (b : Ref sig .tc) (hb : b = main_arg0 ∨ b = main_arg1 ∨ b = main_arg2) : V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    rcases hb with rfl | rfl | rfl
    all_goals repeat' apply And.intro
    all_goals exact StableHlo.devRef_ne_of_ne (by decide)))

/-! ## The grid -/

/-- A window's block at a point, as the launch finds its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's branch is taken at a row block's first point. -/
theorem cond_iff : ∀ t : Fin cfg0.N, k0_cond1 (grid0.coords t) = 1#1 ↔ t.val % 4 = 0 := by decide +kernel

/-- The side product's block is left alone exactly at the other points. -/
theorem idle5 : ∀ t : Fin cfg0.N, cfg0.idle 5 (grid0.coords t) = !decide (t.val % 4 = 0) := by decide +kernel

/-- It is written back at a row block's last point. -/
theorem flush5 : ∀ t : Fin cfg0.N, (cfg0.win 5).flush t = decide (t.val % 4 = 3) := by decide +kernel

/-- Nothing is stored in it since the last write-back exactly before a row block's first point. -/
theorem fresh5 (t : Fin cfg0.N) : cfg0.fresh 5 t.val = decide (t.val % 4 = 0) :=
  Pipeline.Cfg.fresh_tab cfg0 5 (fun n => decide (n % 4 = 0)) rfl (by decide +kernel) t.val (Nat.le_of_lt t.isLt)

theorem points : cfg0.N = 64 := N_0

/-- The first point of a point's row block. -/
def first (t : Fin cfg0.N) : Fin cfg0.N := ⟨4 * (t.val / 4), by have := t.isLt; omega⟩

theorem first_of (t : Fin cfg0.N) (h : t.val % 4 = 0) : first t = t := Fin.ext (by show 4 * (t.val / 4) = t.val; omega)
theorem first_pred (t : Fin cfg0.N) (h : ¬t.val % 4 = 0) : first ⟨t.val - 1, by omega⟩ = first t :=
  Fin.ext (by show 4 * ((t.val - 1) / 4) = 4 * (t.val / 4); omega)

/-! ## What the buffers hold after each point -/

/-- The scratch array: the normed rows of the row block. -/
def rows (c : Dev nD) (t : Fin cfg0.N) : Vec F S1024x2048 .bf16 := normed (iblk m c 0 (first t)) (iblk m c 1 (first t))

/-- The scratch array's contents before position `n`: anything before the first point, then the rows of the point before. -/
def scratch (c : Dev nD) : (n : ℕ) → n ≤ cfg0.N → sProp 𝕄
  | 0, _ => Pipeline.ΦA spec0 c
  | n + 1, h => iprop(owns (c : Thread nD τ) (Memref.whole cc0_scratch0 : Memref sig .tc .vmem S1024x2048 .bf16) fullShare (rows m c ⟨n, h⟩) ∗ (∃ r, prngReg c r))

theorem scratch_zero (c : Dev nD) (n : ℕ) (h : n ≤ cfg0.N) (hz : n = 0) : scratch m c n h = Pipeline.ΦA spec0 c := by
  subst hz; rfl

theorem scratch_pos (c : Dev nD) (n : ℕ) (h : n ≤ cfg0.N) (hz : n ≠ 0) : scratch m c n h =
    iprop(owns (c : Thread nD τ) (Memref.whole cc0_scratch0 : Memref sig .tc .vmem S1024x2048 .bf16) fullShare (rows m c ⟨n - 1, by omega⟩) ∗ (∃ r, prngReg c r)) := by
  cases n with
  | zero => exact absurd rfl hz
  | succ n => rfl

theorem anything (c : Dev nD) : (Pipeline.ΦA spec0 c : sProp 𝕄) =
    iprop((∃ d, owns (c : Thread nD τ) (Memref.whole cc0_scratch0 : Memref sig .tc .vmem S1024x2048 .bf16) fullShare d) ∗ (∃ r, prngReg c r)) := by
  unfold Pipeline.ΦA; rw [scopedRest0_eq]; simp only [owns_whole]

theorem scratch_weaken (c : Dev nD) (n : ℕ) (h : n ≤ cfg0.N) : scratch m c n h ⊢ (Pipeline.ΦA spec0 c : sProp 𝕄) := by
  by_cases hz : n = 0
  · rw [scratch_zero m c n h hz]
  · rw [scratch_pos m c n h hz, anything]
    iintro ⟨H, Hg⟩
    isplitl [H]
    · iexists _; iexact H
    iexact Hg

/-- The launch's data: the arrays as found, each input's block left as it was, and the two outputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile (rows m c t) (iblk m c 2 t)
    | ⟨5, _⟩ => side (rows m c t) (iblk m c 3 (first t))
  Φ t := scratch m c t.val (Nat.le_of_lt_succ t.isLt)
  q _ := fullShare
  owed _ := 0

theorem A_eq (c : Dev nD) (w : Fin cfg0.W) : (dats m 0 c).A w = V m c (Pipeline.arrRef spec0 w) := by
  dsimp only [dats]

theorem scratch_before (c : Dev nD) (t : Fin cfg0.N) : (dats m 0 c).Φ t.castSucc = scratch m c t.val (Nat.le_of_lt t.isLt) := by
  dsimp only [dats]; exact Pipeline.Dat.Φ_castSucc (scratch m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = tile (rows m c t) (iblk m c 2 t) := by dsimp only [dats]
theorem after5 (c : Dev nD) (t : Fin cfg0.N) : (dats m 0 c).after 5 t = side (rows m c t) (iblk m c 3 (first t)) := by dsimp only [dats]

/-! An input's buffer holds its block, fetched at the point or not. -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem rows_pred (c : Dev nD) (t : Fin cfg0.N) (h : ¬t.val % 4 = 0) : rows m c ⟨t.val - 1, by omega⟩ = rows m c t := by
  unfold rows; rw [first_pred t h]

/-- Past a row block's first point the side product's buffer holds that row block's side product. -/
theorem before5 (c : Dev nD) (t : Fin cfg0.N) (h : ¬t.val % 4 = 0) (d) : (dats m 0 c).before 5 t d = side (rows m c t) (iblk m c 3 (first t)) := by
  have carry (t : Fin cfg0.N) (h : ¬t.val % 4 = 0) : (dats m 0 c).after 5 ⟨t.val - 1, by omega⟩ = (dats m 0 c).after 5 t := by
    rw [after5, after5, rows_pred m c t h, first_pred t h]
  rw [Dat.before_out_traj _ 5 rfl (fun _ _ => rfl) (fun t _ hi _ => (carry t fun h => by rw [idle5] at hi; simp [h] at hi).symm) t.val t rfl d,
    if_neg (by rw [fresh5 t]; simp [h]), carry t h, after5]

/-! ## The body at a point -/

/-- Each window's buffer at a point. -/
abbrev stage0 (t : Fin cfg0.N) : Memref sig .tc .vmem S1024x2048 .f32 := win0_0.stage (cfg0.slots t 0)
abbrev stage1 (t : Fin cfg0.N) : Memref sig .tc .vmem S1x2048 .f32 := win0_1.stage (cfg0.slots t 1)
abbrev stage2 (t : Fin cfg0.N) : Memref sig .tc .vmem S2048x1024 .bf16 := win0_2.stage (cfg0.slots t 2)
abbrev stage3 (t : Fin cfg0.N) : Memref sig .tc .vmem S2048x128 .bf16 := win0_3.stage (cfg0.slots t 3)
abbrev stage4 (t : Fin cfg0.N) : Memref sig .tc .vmem S1024x1024 .bf16 := win0_4.stage (cfg0.slots t 4)
abbrev stage5 (t : Fin cfg0.N) : Memref sig .tc .vmem S1024x128 .f32 := win0_5.stage (cfg0.slots t 5)

abbrev bodyAt (t : Fin cfg0.N) : Prog (TpuEff nD τ sig (Elt F) Λ₀ .tc) PUnit :=
  defs₀ (F := F) .tc cfg0.body (cfg0.bodyArgs t (cfg0.slots t))

def Before (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d)))

def After (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_live (c : Dev nD) (w : Fin cfg0.W) (t : Fin cfg0.N) (h : cfg0.idle w (grid0.coords t) = false) (hl : cfg0.loose w = false) :
    (dats m 0 c).leavesExact w t = owns (c : Thread nD τ) ((cfg0.win w).stage (cfg0.slots t w)) fullShare ((dats m 0 c).after w t) := by
  unfold Dat.leavesExact; rw [h]

theorem sound_first (c : Dev nD) (t : Fin cfg0.N) (h : t.val % 4 = 0) :
    Before m c t ⊢ wp frame (wpE (defs₀ (F := F)) Variants.none c none) Set.univ (bodyAt t) (fun _ => After m c t) := by
  unfold Before After
  simp only [before0, before1, before2, before3]
  rw [leaves_live m c 0 t rfl rfl, leaves_live m c 1 t rfl rfl, leaves_live m c 2 t rfl rfl, leaves_live m c 3 t rfl rfl, leaves_live m c 4 t rfl rfl,
    leaves_live m c 5 t (by rw [idle5]; simp [h]) rfl, after0, after1, after2, after3, after4, after5]
  rw [show (dats m 0 c).owesAt () t.succ = (dats m 0 c).owesAt () t.castSucc from rfl, scratch_before]
  rw [show (dats m 0 c).Φ t.succ = scratch m c (t.val + 1) t.isLt from rfl, scratch_pos m c _ _ (Nat.succ_ne_zero _)]
  rw [show rows m c ⟨t.val + 1 - 1, _⟩ = rows m c t from rfl]
  unfold rows
  rw [first_of t h]
  refine (BIClass.sep_mono (scratch_weaken m c t.val (Nat.le_of_lt t.isLt)) (Idealize.SL.BI.Entails.refl _)).trans ?_
  rw [anything]
  iintro ⟨⟨HS, Hg⟩, Ho, ⟨%d0, H0⟩, ⟨%d1, H1⟩, ⟨%d2, H2⟩, ⟨%d3, H3⟩, ⟨%d4, H4⟩, ⟨%d5, H5⟩⟩
  unfold bodyAt defs₀
  rw [Defs.onTc_tc]
  iapply (run_first (grid0.coords t) _ _ _ _ _ _ _ _ _ _ _ _ _ _ c (iblk m c 0 t) (iblk m c 1 t) (iblk m c 2 t) (iblk m c 3 t) Set.univ _ ((cond_iff t).mpr h))
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem sound_next (c : Dev nD) (t : Fin cfg0.N) (h : ¬t.val % 4 = 0) :
    Before m c t ⊢ wp frame (wpE (defs₀ (F := F)) Variants.none c none) Set.univ (bodyAt t) (fun _ => After m c t) := by
  have left : owns (c : Thread nD τ) (stage5 t) fullShare (side (rows m c t) (iblk m c 3 (first t))) ⊢ ((dats m 0 c).leavesExact 5 t : sProp 𝕄) := by
    have hi : cfg0.idle 5 (grid0.coords t) = true := by rw [idle5]; simp [h]
    by_cases hf : t.val % 4 = 3
    · rw [show (dats m 0 c).leavesExact 5 t = owns (c : Thread nD τ) (stage5 t) fullShare ((dats m 0 c).after 5 t) from by
        unfold Dat.leavesExact; rw [hi, flush5 t]; simp [hf], after5]
    · rw [(dats m 0 c).leavesExact_idle 5 t hi (by rw [flush5 t]; simp [hf])]
      simp only [before5 m c t h]
      iintro H
      iexists (fun _ => Classical.ofNonempty); iexact H
  unfold Before After
  simp only [before0, before1, before2, before3, before5 m c t h]
  rw [leaves_live m c 0 t rfl rfl, leaves_live m c 1 t rfl rfl, leaves_live m c 2 t rfl rfl, leaves_live m c 3 t rfl rfl, leaves_live m c 4 t rfl rfl,
    after0, after1, after2, after3, after4]
  rw [show (dats m 0 c).owesAt () t.succ = (dats m 0 c).owesAt () t.castSucc from rfl, scratch_before]
  rw [show (dats m 0 c).Φ t.succ = scratch m c (t.val + 1) t.isLt from rfl, scratch_pos m c _ _ (Nat.succ_ne_zero _)]
  rw [show rows m c ⟨t.val + 1 - 1, _⟩ = rows m c t from rfl]
  rw [scratch_pos m c t.val _ (fun hz => h (by rw [hz])), rows_pred m c t h]
  iintro ⟨⟨HS, Hg⟩, Ho, ⟨%d0, H0⟩, ⟨%d1, H1⟩, ⟨%d2, H2⟩, ⟨%d3, H3⟩, ⟨%d4, H4⟩, ⟨%d5, H5⟩⟩
  unfold bodyAt defs₀
  rw [Defs.onTc_tc]
  iapply (run_next (grid0.coords t) _ _ _ _ _ _ _ _ _ _ _ _ _ _ c (iblk m c 2 t) Set.univ _ (fun e => h ((cond_iff t).mp e)) (rows m c t))
  isplitl [H2]; · iexact H2
  isplitl [H4]; · iexists _; iexact H4
  isplitl [HS]; · iexact HS
  iintro ⟨H2, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iapply left; iexact H5

/-- The body at every point. -/
theorem body_obligation (c : Dev nD) : BodyObligation (dats (F := F) m 0 c) (defs₀ (F := F)) Variants.none () Set.univ := fun t => by
  rw [bigSep_W0, bigSep_W0]
  by_cases h : t.val % 4 = 0
  · exact triple_restated (sound_first m c t h) rfl .rfl fun _ => .rfl
  · exact triple_restated (sound_next m c t h) rfl .rfl fun _ => .rfl

/-! ## The run -/

set_option backward.isDefEq.respectTransparency.types false in
/-- Every execution ends, with the arrays at what the data say and every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = scratch m c 0 (Nat.zero_le _) from rfl, scratch_zero m c 0 _ rfl])
    (hout := fun c => by rw [show (dats m 0 c).Φ (Fin.last cfg0.N) = scratch m c cfg0.N (Nat.le_refl _) from rfl]; exact scratch_weaken m c _ _)

/-- The same, at the two results and the three arguments. -/
theorem run : θ_run defs (onTc (τ := τ) (main (F := F))) ⟨m, fun _ => 0, ρ⟩ (fun r => (∀ c : Dev nD,
      r.2.mem ((c : Thread nD τ).loc main_v13_0) = (dats m 0 c).arrAt 4 cfg0.N
      ∧ r.2.mem ((c : Thread nD τ).loc main_v13_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => ⟨(h.1 c).1 4, (h.1 c).1 5,
      ((h.1 c).2 main_arg0 (Pipeline.mem_restRefs_of main_arg0 (by decide) (by decide))).trans (V_arg m c _ (.inl rfl)),
      ((h.1 c).2 main_arg1 (Pipeline.mem_restRefs_of main_arg1 (by decide) (by decide))).trans (V_arg m c _ (.inr (.inl rfl))),
      ((h.1 c).2 main_arg2 (Pipeline.mem_restRefs_of main_arg2 (by decide) (by decide))).trans (V_arg m c _ (.inr (.inr rfl)))⟩, h.2⟩)
    (run_all m ρ)

end Cert.Kernel6Ideal.Norm

end
-- ==== Proof.NormSpec.lean ====
/- The norm and the projection that follows it, over the extended reals: the columns of the product in the order of the
   call, and the last ones, which go in a result of their own. -/
module

public import proofs.«01_k».proof.Proof.MlpSpec

@[expose] public section

noncomputable section

namespace Norm

open Idealize.ShloMosaic

/-- The column of the weights that column `C` of the call's result is made with. -/
def src (C : Fin 4096) : Fin 4112 :=
  if h : C.val < 1024 then ⟨C.val, by omega⟩
  else if h : C.val < 3072 then ⟨512 + C.val, by omega⟩
  else if h : C.val < 3584 then ⟨C.val - 2048, by omega⟩
  else ⟨C.val, by omega⟩

theorem src_val (C : Fin 4096) : (src C).val = if C.val < 1024 then C.val else if C.val < 3072 then 512 + C.val else if C.val < 3584 then C.val - 2048 else C.val := by
  unfold src
  split_ifs <;> rfl

/-- A value at the source of a column, by the part of the concatenation that the column lies in. -/
theorem at_src {α : Type} (f : Fin 4112 → α) (C : Fin 4096) : (if h : C.val < 1024 then f ⟨C.val, by omega⟩
    else if h : C.val - 1024 < 1024 then f ⟨1536 + (C.val - 1024), by omega⟩
    else if h : C.val - 1024 - 1024 < 1024 then f ⟨2560 + (C.val - 1024 - 1024), by omega⟩
    else if h : C.val - 1024 - 1024 - 1024 < 256 then f ⟨1024 + (C.val - 1024 - 1024 - 1024), by omega⟩
    else if h : C.val - 1024 - 1024 - 1024 - 256 < 256 then f ⟨1280 + (C.val - 1024 - 1024 - 1024 - 256), by omega⟩
    else f ⟨2560 + (1024 + (C.val - 1024 - 1024 - 1024 - 256 - 256)), by omega⟩) = f (src C) := by
  split_ifs <;> exact congrArg f (Fin.ext (by rw [src_val]; dsimp only; split_ifs <;> omega))

/-- An element of the product of a normed row and the weights. -/
def prod (x g : Fin 2048 → EReal) (w : Fin 2048 → Fin 4112 → EReal) (l : Fin 4112) : EReal :=
  ∑ d, Mlp.normRow x g d * w d l

/-- An element of the second result: the last columns of the product, then zeros. -/
def sideOut (x g : Fin 2048 → EReal) (w : Fin 2048 → Fin 4112 → EReal) (C : Fin 128) : EReal :=
  if h : C.val < 16 then prod x g w ⟨4096 + C.val, by omega⟩ else 0

end Norm

end
-- ==== Proof.NormHost.lean ====
/- The output arrays of the kernel that norms and projects, after the run, read off the arguments. -/
module

public import proofs.«01_k».proof.Proof.NormFrame
public import proofs.«01_k».proof.Proof.NormSpec
public import Idealize.ShloMosaic.Lib.Pointwise
public import Idealize.ShloMosaic.Lib.StableHlo.ReadAt

@[expose] public section

set_option maxRecDepth 16384

noncomputable section

namespace Cert.Kernel6Ideal.Norm

open Cert.Kernel6Ideal Cert.Kernel6Ideal.Gen
open Idealize.ShloMosaic Idealize.ShloMosaic.TcCoe Idealize.SL.Sem

theorem zero_word : Ideal.ofBits .f32 0x00000000#32 = (0 : EReal) := by simp [Ideal.ofBits, Ideal.ieee]

/-! ## What the body stores, at an index -/

theorem normed_apply (x : Vec Ideal S1024x2048 .f32) (g : Vec Ideal S1x2048 .f32) (r : Fin 1024) (d : Fin 2048) :
    normed (F := Ideal) x g (ix2 r d) = Mlp.normRow (fun e => x (ix2 r e)) (fun e => g (ix2 0 e)) d := by
  unfold normed scales Mlp.normRow
  pointwise

theorem side_apply (h : Vec Ideal S1024x2048 .bf16) (w : Vec Ideal S2048x128 .bf16) (r : Fin 1024) (C : Fin 128) :
    side (F := Ideal) h w (ix2 r C) = ∑ d : Fin 2048, (h (ix2 r d) : EReal) * w (ix2 d C) := by
  unfold side
  pointwise

theorem tile_apply (h : Vec Ideal S1024x2048 .bf16) (w : Vec Ideal S2048x1024 .bf16) (r C : Fin 1024) :
    tile (F := Ideal) h w (ix2 r C) = ∑ d : Fin 2048, (h (ix2 r d) : EReal) * w (ix2 d C) := by
  unfold tile
  pointwise

/-! ## The arguments, and what the host operations make of them -/

variable (m : (ℓ : Loc nD τ sig) → Buf (Elt Ideal) ℓ) (c : Dev nD)

/-- Row `R` of the stream: position `R % 2048` of batch `R / 2048`. -/
def row (R : Fin 16384) : Fin 2048 → EReal := fun d => m (c, Proc.tc.devRef main_arg0) (ix3 ⟨R.val / 2048, by omega⟩ ⟨R.val % 2048, by omega⟩ d)
def gain : Fin 2048 → EReal := fun d => m (c, Proc.tc.devRef main_arg1) (ix1 d)
def weights : Fin 2048 → Fin 4112 → EReal := fun d l => m (c, Proc.tc.devRef main_arg2) (ix2 d l)

theorem row_at (R : Fin 16384) (d : Fin 2048) : V m c main_v0 (ix2 R d) = row m c R d := by
  unfold V row
  after_reads_at

theorem gain_at (d : Fin 2048) : V m c main_v12 (ix2 0 d) = gain m c d := by
  unfold V gain
  after_reads_at

theorem column_at (d : Fin 2048) (C : Fin 4096) : V m c main_v8 (ix2 d C) = weights m c d (Norm.src C) := by
  unfold V weights
  after_reads_at
  split_ifs <;> after_reads_at <;>
    exact congrArg (fun l => m (c, Proc.tc.devRef main_arg2) (ix2 d l)) (Fin.ext (by rw [Norm.src_val]; dsimp only; split_ifs <;> omega))

theorem last_at (d : Fin 2048) (C : Fin 128) : V m c main_v11 (ix2 d C) = if h : C.val < 16 then weights m c d ⟨4096 + C.val, by omega⟩ else 0 := by
  unfold V weights
  after_reads_at
  rw [show FloatOps.sitofp (F := Ideal) .f32 0#32 = (0 : EReal) by simp [FloatOps.sitofp]]

/-! ## The blocks that a point reads -/

theorem idx : ∀ t : Fin grid0.N, win0_0.index t = ![t.val / 4, 0] ∧ win0_1.index t = ![0, 0] ∧ win0_2.index t = ![0, t.val % 4]
    ∧ win0_3.index t = ![0, 0] ∧ win0_4.index t = ![t.val / 4, t.val % 4] ∧ win0_5.index t = ![t.val / 4, 0] := by decide +kernel

abbrev A0 : S16384x2048.Idx → EReal := V m c main_v0
abbrev A1 : S1x2048.Idx → EReal := V m c main_v12
abbrev A2 : S2048x4096.Idx → EReal := V m c main_v8
abbrev A3 : S2048x128.Idx → EReal := V m c main_v11

/-- Row `r` of the row block of point `t`. -/
def rowOf (t : Fin cfg0.N) (r : Fin 1024) : Fin 16384 := ⟨1024 * (t.val / 4) + r.val, by have h : t.val < 64 := t.isLt.trans_eq points; omega⟩

theorem rowOf_first (t : Fin cfg0.N) (r : Fin 1024) : rowOf (first t) r = rowOf t r := Fin.ext (by show 1024 * (4 * (t.val / 4) / 4) + r.val = 1024 * (t.val / 4) + r.val; omega)

theorem blk0 (t : Fin cfg0.N) (r : Fin 1024) (d : Fin 2048) : iblk m c 0 t (ix2 r d) = row m c (rowOf t r) d := by
  rw [← row_at]
  unfold iblk rowOf
  blk_ext [iblk, idx t]

theorem blk1 (t : Fin cfg0.N) (d : Fin 2048) : iblk m c 1 t (ix2 0 d) = gain m c d := by
  rw [← gain_at]
  unfold iblk
  blk_ext [iblk, idx t]

theorem rows_apply (t : Fin cfg0.N) (r : Fin 1024) (d : Fin 2048) : rows m c t (ix2 r d) = Mlp.normRow (row m c (rowOf t r)) (gain m c) d := by
  unfold rows
  refine (normed_apply _ _ r d).trans ?_
  rw [funext (blk0 m c (first t) r), funext (blk1 m c (first t)), rowOf_first]

/-! ## The output arrays -/

/-- The product of the normed rows and the weights' columns in the order of the call. -/
def total : S16384x4096.Idx → EReal := fun i => ∑ d : Fin 2048, Mlp.normRow (fun e => A0 m c (ix2 (i 0) e)) (gain m c) d * A2 m c (ix2 d (i 1))

/-- Their product with the last columns. -/
def totalSide : S16384x128.Idx → EReal := fun i => ∑ d : Fin 2048, Mlp.normRow (fun e => A0 m c (ix2 (i 0) e)) (gain m c) d * A3 m c (ix2 d (i 1))

theorem final : (dats m 0 c).arrAt 4 cfg0.N = total m c := by
  refine (dats m 0 c).arrAt_eq_of_covers 4 _ (by decide +kernel) fun t _ y => ?_
  blk_simp
  rw [after4]
  obtain ⟨r, C, rfl⟩ : ∃ (r C : Fin 1024), y = ix2 r C := ⟨y 0, y 1, eq_ix2 y⟩
  refine (tile_apply _ _ r C).trans ?_
  simp only [rows_apply m c t r, ← funext (blk0 m c t r)]
  unfold total
  blk_point [iblk, idx t]

theorem finalSide : (dats m 0 c).arrAt 5 cfg0.N = totalSide m c := by
  refine (dats m 0 c).arrAt_eq_of_covers 5 _ (by decide +kernel) fun t hf y => ?_
  blk_simp
  rw [after5]
  obtain ⟨r, C, rfl⟩ : ∃ (r : Fin 1024) (C : Fin 128), y = ix2 r C := ⟨y 0, y 1, eq_ix2 y⟩
  refine (side_apply _ _ r C).trans ?_
  simp only [rows_apply m c t r, ← funext (blk0 m c t r)]
  unfold totalSide
  blk_point [iblk, idx t, idx (first t)]

theorem total_at (R : Fin 16384) (C : Fin 4096) : total m c (ix2 R C) = Norm.prod (row m c R) (gain m c) (weights m c) (Norm.src C) := by
  unfold total Norm.prod
  rw [← funext (row_at m c R)]
  exact Finset.sum_congr rfl fun d _ => congrArg (Mlp.normRow _ (gain m c) d * ·) (column_at m c d C)

theorem totalSide_at (R : Fin 16384) (C : Fin 128) : totalSide m c (ix2 R C) = Norm.sideOut (row m c R) (gain m c) (weights m c) C := by
  unfold totalSide Norm.sideOut Norm.prod
  rw [← funext (row_at m c R)]
  split_ifs with h
  · exact Finset.sum_congr rfl fun d _ => congrArg (Mlp.normRow _ (gain m c) d * ·) ((last_at m c d C).trans (dif_pos h))
  · exact Finset.sum_eq_zero fun d _ => (congrArg (Mlp.normRow _ (gain m c) d * ·) ((last_at m c d C).trans (dif_neg h))).trans (mul_zero (M₀ := EReal) _)

/-- An element of the first result. -/
theorem result (R : Fin 16384) (C : Fin 4096) : (dats m 0 c).arrAt 4 cfg0.N (ix2 R C) = Norm.prod (row m c R) (gain m c) (weights m c) (Norm.src C) :=
  (congrFun (final m c) (ix2 R C)).trans (total_at m c R C)

/-- An element of the second result. -/
theorem result_side (R : Fin 16384) (C : Fin 128) : (dats m 0 c).arrAt 5 cfg0.N (ix2 R C) = Norm.sideOut (row m c R) (gain m c) (weights m c) C :=
  (congrFun (finalSide m c) (ix2 R C)).trans (totalSide_at m c R C)

end Cert.Kernel6Ideal.Norm

end
-- ==== Proof.NormRef.lean ====
/- The norm and projection of the reference, at an index. -/
module

public import proofs.«01_k».proof.Proof.Gen.Reference6Ideal.Read
public import proofs.«01_k».proof.Proof.NormSpec
public import Idealize.ShloMosaic.Lib.Pointwise

@[expose] public section

set_option maxRecDepth 16384

noncomputable section

namespace Cert.Reference6Ideal.Norm

open Cert.Reference6Ideal Cert.Reference6Ideal.Gen Cert.Reference6Ideal.Read
open Idealize.ShloMosaic Idealize.ShloMosaic.TcCoe Idealize.SL.Sem

theorem zero_word : Ideal.ofBits .f32 0x00000000#32 = (0 : EReal) := by simp [Ideal.ofBits, Ideal.ieee]

variable (x0 : (⟨S8x2048x2048, .f32⟩ : BufTy).Contents (Elt Ideal)) (x1 : (⟨S2048, .f32⟩ : BufTy).Contents (Elt Ideal))
  (x2 : (⟨S2048x4112, .f32⟩ : BufTy).Contents (Elt Ideal))

/-- The sum of a row's squares. -/
theorem squares (b : Fin 8) (s : Fin 2048) : val_main_v1 x0 (ix2 b s) = ∑ e : Fin 2048, x0 (ix3 b s e) * x0 (ix3 b s e) := by
  rw [val_main_v1_apply, val_main_cst_apply]
  refine (congrArg (· + _) zero_word).trans ((zero_add _).trans (Finset.sum_congr rfl fun e _ => ?_))
  rw [show idx_main_v1 (ix2 b s) e = ix3 b s e from funext fun a => Fin.ext (by match a with | ⟨0, _⟩ => rfl | ⟨1, _⟩ => rfl | ⟨2, _⟩ => rfl)]
  rfl

/-- The normed row. -/
theorem normed (b : Fin 8) (s d : Fin 2048) : val_main_v12 x0 x1 (ix3 b s d) = Mlp.normRow (fun e => x0 (ix3 b s e)) (fun e => x1 (ix1 e)) d := by
  unfold Mlp.normRow
  rw [← squares]
  unfold val_main_v12 val_main_v11 val_main_v10 val_main_v9 val_main_v8 val_main_v7 val_main_v6 val_main_v5 val_main_v4 val_main_v3 val_main_v2 val_main_cst_0 val_main_cst_1
  generalize val_main_v1 x0 = q
  pointwise

/-- The product of the normed rows and the weights. -/
theorem product (b : Fin 8) (s : Fin 2048) (l : Fin 4112) :
    val_main_v13 x0 x1 x2 (ix3 b s l) = Norm.prod (fun e => x0 (ix3 b s e)) (fun e => x1 (ix1 e)) (fun d l => x2 (ix2 d l)) l := by
  unfold Norm.prod
  rw [val_main_v13_apply]
  refine Finset.sum_congr rfl fun d _ => ?_
  rw [← normed]
  exact congrArg₂ (· * ·) (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl)))

/-- An element of the first result. -/
theorem result (R : Fin 16384) (C : Fin 4096) : val_main_v24 x0 x1 x2 (ix2 R C) =
    Norm.prod (fun e => x0 (ix3 ⟨R.val / 2048, by omega⟩ ⟨R.val % 2048, by omega⟩ e)) (fun e => x1 (ix1 e)) (fun d l => x2 (ix2 d l)) (Norm.src C) := by
  rw [← product]
  unfold val_main_v24 val_main_v23 val_main_v22 val_main_v21 val_main_v20 val_main_v18 val_main_v17 val_main_v16 val_main_v15 val_main_v14
  generalize val_main_v13 x0 x1 x2 = q
  pointwise
  exact Norm.at_src (fun l => q (ix3 ⟨R.val / 2048, by omega⟩ ⟨R.val % 2048, by omega⟩ l)) C

/-- An element of the second result. -/
theorem result_side (R : Fin 16384) (C : Fin 128) : val_main_v27 x0 x1 x2 (ix2 R C) =
    Norm.sideOut (fun e => x0 (ix3 ⟨R.val / 2048, by omega⟩ ⟨R.val % 2048, by omega⟩ e)) (fun e => x1 (ix1 e)) (fun d l => x2 (ix2 d l)) C := by
  unfold Norm.sideOut
  rw [← zero_word]
  simp only [← product]
  unfold val_main_v27 val_main_v26 val_main_v25 val_main_v19 val_main_cst_2
  generalize val_main_v13 x0 x1 x2 = q
  pointwise

end Cert.Reference6Ideal.Norm

end
-- ==== Proof.RwkvSpec.lean ====
/- The inputs of the time mixing over the extended reals: a row and the row before it, both normed, mixed by a weight per
   lane, and the two gates that low-rank products of such mixtures give. -/
module

public import proofs.«01_k».proof.Proof.MlpSpec

@[expose] public section

noncomputable section

namespace Rwkv

open Idealize.ShloMosaic

/-- Row `h` mixed with the row `p` before it. -/
def mixed (h p mu : Fin 2048 → EReal) (d : Fin 2048) : EReal := h d + (p d - h d) * mu d

/-- The number one, as the literals of the programs have it. -/
def one : EReal := Ideal.ofBits .f32 0x3F800000#32

/-- The logistic function. -/
def sigm (u : EReal) : EReal := Ideal.div one (one + Ideal.exp (-u))

/-- A lane of a mixture's product with the first low-rank weights. -/
def inner (h p mu w : Fin 2048 → EReal) : EReal := ∑ d, mixed h p mu d * w d

/-- The learning rate: the logistic function after the second product. -/
def rate (h p mu : Fin 2048 → EReal) (w : Fin 2048 → Fin 96 → EReal) (v : Fin 96 → EReal) (b : EReal) : EReal :=
  sigm (b + ∑ e, inner h p mu (fun d => w d e) * v e)

/-- The gate: the logistic function before the second product. -/
def gate (h p mu : Fin 2048 → EReal) (w : Fin 2048 → Fin 256 → EReal) (v : Fin 256 → EReal) : EReal :=
  ∑ e, sigm (inner h p mu fun d => w d e) * v e

/-- Row `R` of all batches, normed. -/
def normed (x : Fin 16384 → Fin 2048 → EReal) (g : Fin 2048 → EReal) (R : Fin 16384) : Fin 2048 → EReal := Mlp.normRow (x R) g

/-- The normed row before row `R`: zero at the first position of a batch. -/
def before (x : Fin 16384 → Fin 2048 → EReal) (g : Fin 2048 → EReal) (R : Fin 16384) : Fin 2048 → EReal :=
  fun d => if R.val % 2048 = 0 then 0 else normed x g ⟨R.val - 1, by omega⟩ d

/-- The place among the six mixtures' weights of those for r, k and v. -/
def src (k : Fin 3) : Fin 6 := ![0, 2, 3] k

/-- A sum over 128 lanes whose last 32 are zero is the sum of the first 96. -/
theorem sum_padded (F : Fin 128 → EReal) (h : ∀ e : Fin 128, 96 ≤ e.val → F e = 0) : ∑ e, F e = ∑ e : Fin 96, F ⟨e.val, by omega⟩ := by
  rw [show (∑ e, F e) = ∑ e : Fin (96 + 32), F e from rfl, Fin.sum_univ_add]
  refine (congrArg₂ (· + ·) rfl (Finset.sum_eq_zero fun e _ => h _ (by show 96 ≤ 96 + e.val; omega))).trans (add_zero _)

end Rwkv

end
-- ==== Proof.RwkvBody.lean ====
/- What a point of the kernel that prepares the time mixing stores, at an index. -/
module

public import proofs.«01_k».proof.Proof.Gen.Kernel7Ideal.Value
public import proofs.«01_k».proof.Proof.RwkvSpec
public import Idealize.ShloMosaic.Lib.Pipeline.ValueKit
public import Idealize.ShloMosaic.Lib.Pointwise

@[expose] public section

set_option maxRecDepth 16384

noncomputable section

namespace Cert.Kernel7Ideal.Rwkv

open Cert.Kernel7Ideal Cert.Kernel7Ideal.Gen
open Idealize.ShloMosaic Idealize.ShloMosaic.TcCoe Idealize.SL.Sem

theorem zero_word : Ideal.ofBits .f32 0x00000000#32 = (0 : EReal) := by simp [Ideal.ofBits, Ideal.ieee]

/-! ## The normed rows and the rows before them -/

theorem normed_apply (g : Vec Ideal S1x2048 .f32) (x : Vec Ideal S256x2048 .f32) (r : Fin 256) (d : Fin 2048) :
    k0_pay3 (F := Ideal) g x (ix2 r d) = Mlp.normRow (fun e => x (ix2 r e)) (fun e => g (ix2 0 e)) d := by
  unfold k0_pay3 k0_pay2 Mlp.normRow
  pointwise

/-- The 8 rows before a block, normed, and zero where the block is the first of its batch. -/
def carried (g : Vec Ideal S1x2048 .f32) (i : grid0.Coords) (x : Vec Ideal S8x2048 .f32) : Vec Ideal S8x2048 .f32 :=
  k0_pay8 (k0_pay2 g) (k0_pay4 i) (k0_pay5 x) (k0_pay6 x) k0_pay7

theorem carried_apply (g : Vec Ideal S1x2048 .f32) (i : grid0.Coords) (x : Vec Ideal S8x2048 .f32) (r : Fin 8) (d : Fin 2048) :
    carried g i x (ix2 r d) = Mlp.normRow (fun e => x (ix2 r e)) (fun e => g (ix2 0 e)) d * k0_pay4 (F := Ideal) i := by
  unfold carried k0_pay8 k0_pay7 k0_pay6 k0_pay5 k0_pay2 Mlp.normRow
  generalize k0_pay4 (F := Ideal) i = q
  pointwise

theorem kept (H : Vec Ideal S256x2048 .f32) (r : Fin 256) (d : Fin 2048) : k0_pay9 (F := Ideal) H (ix2 r d) = H (ix2 r d) := by
  unfold k0_pay9
  pointwise

/-- The two pieces that a point writes to the scratch. -/
abbrev pieces (H : Vec Ideal S256x2048 .f32) (P : Vec Ideal S8x2048 .f32) : List (View.Piece (Elt Ideal) S264x2048 .f32) :=
  [⟨Rect.unit ![8, 0] ![256, 2048] (by decide +kernel), H⟩, ⟨Rect.unit ![0, 0] ![8, 2048] (by decide +kernel), P⟩]

/-- The scratch read one row above the block. -/
def shifted (H : Vec Ideal S256x2048 .f32) (P : Vec Ideal S8x2048 .f32) : Vec Ideal S256x2048 .f32 :=
  (View.whole cc0_scratch0).readCov (pieces (k0_pay9 (F := Ideal) H) P) (Rect.unit (s := S264x2048) ![7, 0] ![256, 2048] (by decide +kernel)).toLoadRect

/-- The scratch's index whose coordinates are those of an index of a piece. -/
theorem eq_emb (y : S264x2048.Idx) (k n : ℕ) (inb) (x : (Rect.unit (s := S264x2048) ![k, 0] ![n, 2048] inb).shape.Idx)
    (h0 : (y 0).val = k + (x 0).val) (h1 : (y 1).val = (x 1).val) : y = (Rect.unit (s := S264x2048) ![k, 0] ![n, 2048] inb).emb x := by
  funext a
  match a with
  | ⟨0, _⟩ => exact Fin.ext ((h0.trans (congrArg (k + ·) (one_mul _).symm)).trans (Rect.emb_apply _ x 0).symm)
  | ⟨1, _⟩ => exact Fin.ext ((h1.trans ((one_mul _).symm.trans (zero_add _).symm)).trans (Rect.emb_apply _ x 1).symm)

/-- The scratch at row `7 + r`. -/
theorem pieces_apply (H : Vec Ideal S256x2048 .f32) (P : Vec Ideal S8x2048 .f32) (r : Fin 256) (d : Fin 2048) (y : S264x2048.Idx)
    (h0 : (y 0).val = 7 + r.val) (h1 : (y 1).val = d.val) :
    View.canon (pieces H P) y = if h : r.val = 0 then P (ix2 7 d) else H (ix2 ⟨r.val - 1, by omega⟩ d) := by
  by_cases h : r.val = 0
  · rw [dif_pos h]
    refine (View.canon_cons_of_not_mem _ _ fun hm => ?_).trans ?_
    · have h8 : 8 ≤ (y 0).val := ((Rect.mem_set_unit (inb := by decide +kernel)).mp hm 0).1
      omega
    · exact (congrArg _ (eq_emb y 0 8 (by decide +kernel) (ix2 7 d) (by show (y 0).val = 0 + 7; omega) h1)).trans (View.canon_cons_emb _ _ _ _)
  · rw [dif_neg h]
    exact (congrArg _ (eq_emb y 8 256 (by decide +kernel) (ix2 ⟨r.val - 1, by omega⟩ d) (by show (y 0).val = 8 + (r.val - 1); omega) h1)).trans
      (View.canon_cons_emb _ _ _ _)

theorem shifted_apply (H : Vec Ideal S256x2048 .f32) (P : Vec Ideal S8x2048 .f32) (r : Fin 256) (d : Fin 2048) :
    shifted H P (ix2 r d) = if h : r.val = 0 then P (ix2 7 d) else H (ix2 ⟨r.val - 1, by omega⟩ d) := by
  unfold shifted
  rw [View.readCov_eq_canon']
  refine (pieces_apply _ P r d _ (congrArg (7 + ·) (one_mul _)) ((zero_add _).trans (one_mul _))).trans ?_
  simp only [kept]

/-! ## The results -/

theorem layer_emb (n : ℕ) (inb) (y : S3x256x2048.Idx) (x : (Rect.unit (s := S3x256x2048) ![n, 0, 0] ![1, 256, 2048] inb).shape.Idx)
    (h0 : (y 0).val = n + (x 0).val) (h1 : (y 1).val = (x 1).val) (h2 : (y 2).val = (x 2).val) :
    y = (Rect.unit (s := S3x256x2048) ![n, 0, 0] ![1, 256, 2048] inb).emb x := by
  funext a
  match a with
  | ⟨0, _⟩ => exact Fin.ext ((h0.trans (congrArg (n + ·) (one_mul _).symm)).trans (Rect.emb_apply _ x 0).symm)
  | ⟨1, _⟩ => exact Fin.ext ((h1.trans ((one_mul _).symm.trans (zero_add _).symm)).trans (Rect.emb_apply _ x 1).symm)
  | ⟨2, _⟩ => exact Fin.ext ((h2.trans ((one_mul _).symm.trans (zero_add _).symm)).trans (Rect.emb_apply _ x 2).symm)

theorem layer_not_mem (n : ℕ) (inb) (y : S3x256x2048.Idx) (h : (y 0).val < n) :
    y ∉ (Rect.unit (s := S3x256x2048) ![n, 0, 0] ![1, 256, 2048] inb).set := fun hm => by
  have h' : n ≤ (y 0).val := ((Rect.mem_set_unit (inb := inb)).mp hm 0).1
  omega

/-- The piece of layer `n` read at its own index, and passed over at an index of a layer below it. -/
theorem layer_read (n : ℕ) (inb) (w : Vec Ideal S1x256x2048 .bf16) (L : List (View.Piece (Elt Ideal) S3x256x2048 .bf16)) (k : Fin 3) (r : Fin 256) (d : Fin 2048) (h : k.val = n) :
    View.canon (⟨Rect.unit ![n, 0, 0] ![1, 256, 2048] inb, w⟩ :: L) (ix3 k r d) = w (ix3 0 r d) := by
  rw [layer_emb n inb (ix3 k r d) (ix3 0 r d) h rfl rfl]
  exact View.canon_cons_emb _ _ _ _

theorem layer_pass (n : ℕ) (inb) (w : Vec Ideal S1x256x2048 .bf16) (L : List (View.Piece (Elt Ideal) S3x256x2048 .bf16)) (k : Fin 3) (r : Fin 256) (d : Fin 2048) (h : k.val < n) :
    View.canon (⟨Rect.unit ![n, 0, 0] ![1, 256, 2048] inb, w⟩ :: L) (ix3 k r d) = View.canon L (ix3 k r d) :=
  View.canon_cons_of_not_mem _ _ (layer_not_mem n inb _ h)

/-- The block of the three mixed rows, from its three pieces. -/
theorem stacked (A B C : Vec Ideal S1x256x2048 .bf16) (h0 h1 h2) (k : Fin 3) (r : Fin 256) (d : Fin 2048) :
    View.canon (Val := Elt Ideal) (s := S3x256x2048) (e := .bf16) [⟨Rect.unit ![2, 0, 0] ![1, 256, 2048] h2, C⟩, ⟨Rect.unit ![1, 0, 0] ![1, 256, 2048] h1, B⟩,
      ⟨Rect.unit ![0, 0, 0] ![1, 256, 2048] h0, A⟩] (ix3 k r d) = ![A, B, C] k (ix3 0 r d) := by
  match k with
  | 0 => exact (layer_pass 2 h2 C _ 0 r d (by decide)).trans ((layer_pass 1 h1 B _ 0 r d (by decide)).trans (layer_read 0 h0 A _ 0 r d rfl))
  | 1 => exact (layer_pass 2 h2 C _ 1 r d (by decide)).trans (layer_read 1 h1 B _ 1 r d rfl)
  | 2 => exact layer_read 2 h2 C _ 2 r d rfl

/-- What a point leaves in the block of the mixed rows. -/
theorem out_mixed (c : Dev nD) (i : grid0.Coords) (a1 h1 a2 h2 a3 h3 a4 h4 a5 h5 a6 h6 a7 h7 a8 h8 a9 h9 a10 h10 a11 h11 a12 h12 a13 h13 a14 h14 a15 h15 a16 h16 a17 h17)
    (x0 : Vec Ideal S256x2048 .f32) (x1 : Vec Ideal S8x2048 .f32) (x2 : Vec Ideal S1x2048 .f32) (x3 : Vec Ideal S6x2048 .f32) (x4 x5 x6 x7 x8 x9 x10 x11)
    (k : Fin 3) (r : Fin 256) (d : Fin 2048) :
    out0_A_12 (F := Ideal) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 (ix3 k r d) =
      ![k0_pay11 (k0_pay3 x2 x0) (shifted (k0_pay3 x2 x0) (carried x2 i x1)) (View.ld x3 (Rect.unit (s := S6x2048) ![0, 0] ![1, 2048] inb_S6x2048_S1x2048_0_0)),
        k0_pay12 (k0_pay3 x2 x0) (shifted (k0_pay3 x2 x0) (carried x2 i x1)) (View.ld x3 (Rect.unit (s := S6x2048) ![1, 0] ![1, 2048] inb_S6x2048_S1x2048_1_0)),
        k0_pay14 (k0_pay3 x2 x0) (k0_pay13 (k0_pay3 x2 x0) (shifted (k0_pay3 x2 x0) (carried x2 i x1)) (View.ld x3 (Rect.unit (s := S6x2048) ![2, 0] ![1, 2048] inb_S6x2048_S1x2048_2_0)))]
        k (ix3 0 r d) := by
  refine Eq.trans ?_ (stacked _ _ _ inb_S3x256x2048_S1x256x2048_0_0_0 inb_S3x256x2048_S1x256x2048_1_0_0 inb_S3x256x2048_S1x256x2048_2_0_0 k r d)
  unfold out0_A_12
  rw [View.read_writes_junk_apply_eq_canon]
  unfold kernelRun0_A
  dsimp only
  sl_unfold_words
  simp (disch := decide) only [View.readAt_eq_ld, Memref.IsWhole.read_unread, View.ld_unit_lit']
  unfold shifted pieces carried
  simp only [View.readCov_eq_canon']
  rfl

variable (H S : Vec Ideal S256x2048 .f32)

abbrev at' (X : Vec Ideal S256x2048 .f32) (r : Fin 256) : Fin 2048 → EReal := fun d => X (ix2 r d)

theorem first_apply (u : Vec Ideal S1x2048 .f32) (r : Fin 256) (d : Fin 2048) :
    k0_pay11 (F := Ideal) H S u (ix3 0 r d) = Rwkv.mixed (at' H r) (at' S r) (fun e => u (ix2 0 e)) d := by
  unfold k0_pay11 k0_pay10 Rwkv.mixed
  pointwise

theorem second_apply (u : Vec Ideal S1x2048 .f32) (r : Fin 256) (d : Fin 2048) :
    k0_pay12 (F := Ideal) H S u (ix3 0 r d) = Rwkv.mixed (at' H r) (at' S r) (fun e => u (ix2 0 e)) d := by
  unfold k0_pay12 k0_pay10 Rwkv.mixed
  pointwise

theorem third_apply (u : Vec Ideal S1x2048 .f32) (r : Fin 256) (d : Fin 2048) :
    k0_pay14 (F := Ideal) H (k0_pay13 H S u) (ix3 0 r d) = Rwkv.mixed (at' H r) (at' S r) (fun e => u (ix2 0 e)) d := by
  unfold k0_pay14 k0_pay13 k0_pay10 Rwkv.mixed
  pointwise

theorem inner_apply (u : Vec Ideal S1x2048 .f32) (w : Vec Ideal S2048x128 .bf16) (r : Fin 256) (e : Fin 128) :
    k0_pay16 (F := Ideal) H (k0_pay10 H S) u w (ix2 r e) = Rwkv.inner (at' H r) (at' S r) (fun e => u (ix2 0 e)) (fun d => w (ix2 d e)) := by
  unfold k0_pay16 k0_pay10 Rwkv.inner Rwkv.mixed
  pointwise

theorem rate_apply (q : Vec Ideal S256x128 .bf16) (b : Vec Ideal S1x2048 .f32) (v : Vec Ideal S128x2048 .bf16) (r : Fin 256) (C : Fin 2048) :
    k0_pay21 (F := Ideal) q b v (ix2 r C) = Rwkv.sigm (b (ix2 0 C) + ∑ e : Fin 128, q (ix2 r e) * v (ix2 e C)) := by
  unfold Rwkv.sigm Rwkv.one
  rw [← zero_sub, ← zero_word]
  unfold k0_pay21
  pointwise

theorem gated_apply (u : Vec Ideal S1x2048 .f32) (w : Vec Ideal S2048x256 .bf16) (r e : Fin 256) :
    k0_pay19 (F := Ideal) (k0_pay17 H (k0_pay10 H S) u w) k0_pay18 (ix2 r e) =
      Rwkv.sigm (Rwkv.inner (at' H r) (at' S r) (fun e => u (ix2 0 e)) fun d => w (ix2 d e)) := by
  unfold Rwkv.sigm Rwkv.one
  rw [← zero_sub, ← zero_word]
  unfold k0_pay19 k0_pay18 k0_pay17 k0_pay10 Rwkv.inner Rwkv.mixed
  pointwise

theorem gate_apply (q : Vec Ideal S256x256 .bf16) (v : Vec Ideal S256x2048 .bf16) (r : Fin 256) (C : Fin 2048) :
    k0_pay1 (F := Ideal) q v (ix2 r C) = ∑ e : Fin 256, (q (ix2 r e) : EReal) * v (ix2 e C) := by
  unfold k0_pay1
  pointwise

end Cert.Kernel7Ideal.Rwkv

end
-- ==== Proof.RwkvHost.lean ====
/- The output arrays of the kernel that prepares the time mixing, after the run, read off the arguments. -/
module

public import proofs.«01_k».proof.Proof.RwkvBody
public import Idealize.ShloMosaic.Lib.StableHlo.ReadAt

@[expose] public section

set_option maxRecDepth 16384

noncomputable section

namespace Cert.Kernel7Ideal.Rwkv

open Cert.Kernel7Ideal Cert.Kernel7Ideal.Gen
open Idealize.ShloMosaic Idealize.ShloMosaic.TcCoe Idealize.SL.Sem

variable (m : (ℓ : Loc nD τ sig) → Buf (Elt Ideal) ℓ) (c : Dev nD)

/-! ## The arguments, and what the host operations make of them -/

/-- Row `R` of the stream: position `R % 2048` of batch `R / 2048`. -/
def row (R : Fin 16384) : Fin 2048 → EReal := fun d => m (c, Proc.tc.devRef main_arg0) (ix3 ⟨R.val / 2048, by omega⟩ ⟨R.val % 2048, by omega⟩ d)
def gain : Fin 2048 → EReal := fun d => m (c, Proc.tc.devRef main_arg1) (ix1 d)
/-- Weights `k` of the mixtures. -/
def mix (k : Fin 6) : Fin 2048 → EReal := fun d => m (c, Proc.tc.devRef main_arg2) (ix2 k d)
def base : Fin 2048 → EReal := fun d => m (c, Proc.tc.devRef main_arg6) (ix1 d)
def rateIn : Fin 2048 → Fin 96 → EReal := fun d e => m (c, Proc.tc.devRef main_arg7) (ix2 d e)
def rateOut : Fin 96 → Fin 2048 → EReal := fun e d => m (c, Proc.tc.devRef main_arg8) (ix2 e d)
def gateIn : Fin 2048 → Fin 256 → EReal := fun d e => m (c, Proc.tc.devRef main_arg9) (ix2 d e)
def gateOut : Fin 256 → Fin 2048 → EReal := fun e d => m (c, Proc.tc.devRef main_arg10) (ix2 e d)

theorem row_at (R : Fin 16384) (d : Fin 2048) : V m c main_v0 (ix2 R d) = row m c R d := by
  unfold V row
  after_reads_at

theorem gain_at (d : Fin 2048) : V m c main_v28 (ix2 0 d) = gain m c d := by
  unfold V gain
  after_reads_at

theorem base_at (d : Fin 2048) : V m c main_v32 (ix2 0 d) = base m c d := by
  unfold V base
  after_reads_at

theorem gateIn_at (d : Fin 2048) (e : Fin 256) : V m c main_v29 (ix2 d e) = gateIn m c d e := by
  unfold V gateIn
  after_reads_at

theorem gateOut_at (e : Fin 256) (d : Fin 2048) : V m c main_v30 (ix2 e d) = gateOut m c e d := by
  unfold V gateOut
  after_reads_at

theorem rateIn_at (d : Fin 2048) (e : Fin 128) : V m c main_v23 (ix2 d e) = if h : e.val < 96 then rateIn m c d ⟨e.val, h⟩ else 0 := by
  unfold V rateIn
  after_reads_at
  rw [show FloatOps.sitofp (F := Ideal) .f32 0#32 = (0 : EReal) by simp [FloatOps.sitofp]]

theorem rateOut_at (e : Fin 128) (d : Fin 2048) : V m c main_v27 (ix2 e d) = if h : e.val < 96 then rateOut m c ⟨e.val, h⟩ d else 0 := by
  unfold V rateOut
  after_reads_at
  rw [show FloatOps.sitofp (F := Ideal) .f32 0#32 = (0 : EReal) by simp [FloatOps.sitofp]]

/-- The order in which the call takes the mixtures' weights. -/
def order : Fin 6 → Fin 6 := ![0, 2, 3, 1, 4, 5]

theorem mix_at (k : Fin 6) (d : Fin 2048) : V m c main_v19 (ix2 k d) = mix m c (order k) d := by
  unfold V mix
  fin_cases k <;> after_reads_at <;> after_reads_at <;> rfl

/-! ## The blocks that a point reads -/

theorem idx : ∀ t : Fin grid0.N, win0_0.index t = ![t.val, 0] ∧ win0_1.index t = ![32 * t.val - 1, 0] ∧ win0_2.index t = ![0, 0]
    ∧ win0_3.index t = ![0, 0] ∧ win0_5.index t = ![0, 0] ∧ win0_6.index t = ![0, 0] ∧ win0_8.index t = ![0, 0] ∧ win0_9.index t = ![0, 0]
    ∧ win0_11.index t = ![0, 0] ∧ win0_12.index t = ![0, t.val, 0] ∧ win0_14.index t = ![t.val, 0] ∧ win0_15.index t = ![t.val, 0] := by decide +kernel

theorem points : cfg0.N = 64 := by decide +kernel

/-- Row `r` of the row block of point `t`. -/
def rowOf (t : Fin cfg0.N) (r : Fin 256) : Fin 16384 := ⟨256 * t.val + r.val, by have h : t.val < 64 := t.isLt.trans_eq points; omega⟩

/-- Row `r` of the 8 rows before it. -/
def lastOf (t : Fin cfg0.N) (r : Fin 8) : Fin 16384 := ⟨8 * (32 * t.val - 1) + r.val, by have h : t.val < 64 := t.isLt.trans_eq points; omega⟩

theorem blk0 (t : Fin cfg0.N) (r : Fin 256) (d : Fin 2048) : iblk m c 0 t (ix2 r d) = row m c (rowOf t r) d := by
  rw [← row_at]
  unfold iblk rowOf
  blk_ext [iblk, idx t]

theorem blk1 (t : Fin cfg0.N) (r : Fin 8) (d : Fin 2048) : iblk m c 1 t (ix2 r d) = row m c (lastOf t r) d := by
  rw [← row_at]
  unfold iblk lastOf
  blk_ext [iblk, idx t]

theorem blk2 (t : Fin cfg0.N) (d : Fin 2048) : iblk m c 2 t (ix2 0 d) = gain m c d := by
  rw [← gain_at]
  unfold iblk
  blk_ext [iblk, idx t]

theorem blk3 (t : Fin cfg0.N) (k : Fin 6) (d : Fin 2048) : iblk m c 3 t (ix2 k d) = mix m c (order k) d := by
  rw [← mix_at]
  unfold iblk
  blk_ext [iblk, idx t]

theorem blk5 (t : Fin cfg0.N) (d : Fin 2048) (e : Fin 128) : iblk m c 5 t (ix2 d e) = if h : e.val < 96 then rateIn m c d ⟨e.val, h⟩ else 0 := by
  rw [← rateIn_at]
  unfold iblk
  blk_ext [iblk, idx t]

theorem blk6 (t : Fin cfg0.N) (d : Fin 2048) (e : Fin 256) : iblk m c 6 t (ix2 d e) = gateIn m c d e := by
  rw [← gateIn_at]
  unfold iblk
  blk_ext [iblk, idx t]

theorem blk8 (t : Fin cfg0.N) (e : Fin 128) (d : Fin 2048) : iblk m c 8 t (ix2 e d) = if h : e.val < 96 then rateOut m c ⟨e.val, h⟩ d else 0 := by
  rw [← rateOut_at]
  unfold iblk
  blk_ext [iblk, idx t]

theorem blk9 (t : Fin cfg0.N) (e : Fin 256) (d : Fin 2048) : iblk m c 9 t (ix2 e d) = gateOut m c e d := by
  rw [← gateOut_at]
  unfold iblk
  blk_ext [iblk, idx t]

theorem blk11 (t : Fin cfg0.N) (d : Fin 2048) : iblk m c 11 t (ix2 0 d) = base m c d := by
  rw [← base_at]
  unfold iblk
  blk_ext [iblk, idx t]

/-! ## The normed rows of a point, and the rows before them -/

/-- The factor of the carried rows: zero at the first block of a batch. -/
theorem keep_at (t : Fin cfg0.N) : k0_pay4 (F := Ideal) (grid0.coords t) = if t.val % 8 = 0 then (0 : EReal) else 1 := by
  obtain ⟨C, hC, h⟩ : ∃ C : grid0.Coords → BitVec 1, (∀ i, k0_pay4 (F := Ideal) i = Scalar.select (C i) (Ideal.ofBits .f32 0x00000000#32) (Ideal.ofBits .f32 0x3F800000#32))
      ∧ ∀ t : Fin grid0.N, C (grid0.coords t) = if t.val % 8 = 0 then 1#1 else 0#1 := ⟨_, fun _ => rfl, by decide +kernel⟩
  rw [hC, zero_word, Ideal.ofBits_one_f32, h t]
  split_ifs <;> rfl

def rows (t : Fin cfg0.N) : Vec Ideal S256x2048 .f32 := k0_pay3 (iblk m c 2 t) (iblk m c 0 t)
def rowsBefore (t : Fin cfg0.N) : Vec Ideal S256x2048 .f32 := shifted (rows m c t) (carried (iblk m c 2 t) (grid0.coords t) (iblk m c 1 t))

theorem rows_apply (t : Fin cfg0.N) (r : Fin 256) (d : Fin 2048) : rows m c t (ix2 r d) = Rwkv.normed (row m c) (gain m c) (rowOf t r) d := by
  unfold rows
  refine (normed_apply _ _ r d).trans ?_
  rw [funext (blk0 m c t r), funext (blk2 m c t)]
  rfl

theorem before_apply (t : Fin cfg0.N) (r : Fin 256) (d : Fin 2048) : rowsBefore m c t (ix2 r d) = Rwkv.before (row m c) (gain m c) (rowOf t r) d := by
  have ht : t.val < 64 := t.isLt.trans_eq points
  unfold rowsBefore
  rw [shifted_apply]
  unfold Rwkv.before
  by_cases h : r.val = 0
  · rw [dif_pos h, carried_apply, keep_at, funext (blk1 m c t 7), funext (blk2 m c t)]
    by_cases h8 : t.val % 8 = 0
    · rw [if_pos h8, if_pos (show (rowOf t r).val % 2048 = 0 by unfold rowOf; dsimp only; omega)]
      exact mul_zero (M₀ := EReal) _
    · rw [if_neg h8, if_neg (show ¬(rowOf t r).val % 2048 = 0 by unfold rowOf; dsimp only; omega)]
      refine (mul_one (M := EReal) _).trans ?_
      exact congrArg (fun R => Rwkv.normed (row m c) (gain m c) R d) (Fin.ext (by unfold lastOf rowOf; show 8 * (32 * t.val - 1) + 7 = 256 * t.val + r.val - 1; omega))
  · rw [dif_neg h, rows_apply, if_neg (show ¬(rowOf t r).val % 2048 = 0 by unfold rowOf; dsimp only; omega)]
    exact congrArg (fun R => Rwkv.normed (row m c) (gain m c) R d) (Fin.ext (by unfold rowOf; show 256 * t.val + (r.val - 1) = 256 * t.val + r.val - 1; omega))

/-! ## The output arrays -/

/-- The mixed rows for r, k and v. -/
def totalMixed : S3x16384x2048.Idx → EReal := fun i =>
  Rwkv.mixed (Rwkv.normed (row m c) (gain m c) (i 1)) (Rwkv.before (row m c) (gain m c) (i 1)) (mix m c (Rwkv.src (i 0))) (i 2)

/-- The learning rates. -/
def totalRate : S16384x2048.Idx → EReal := fun i =>
  Rwkv.rate (Rwkv.normed (row m c) (gain m c) (i 0)) (Rwkv.before (row m c) (gain m c) (i 0)) (mix m c 4) (rateIn m c) (fun e => rateOut m c e (i 1)) (base m c (i 1))

/-- The gate. -/
def totalGate : S16384x2048.Idx → EReal := fun i =>
  Rwkv.gate (Rwkv.normed (row m c) (gain m c) (i 0)) (Rwkv.before (row m c) (gain m c) (i 0)) (mix m c 5) (gateIn m c) (fun e => gateOut m c e (i 1))

/-- Row `k` of the mixtures' weights, as the body loads it. -/
abbrev weights (t : Fin cfg0.N) (k : ℕ) (inb : ∀ a, (![k, 0] : Fin 2 → ℕ) a + (![1, 2048] : Fin 2 → ℕ) a ≤ S6x2048.size a) : Vec Ideal S1x2048 .f32 :=
  View.ld (iblk m c 3 t) (Rect.unit (s := S6x2048) ![k, 0] ![1, 2048] inb)

theorem weights_at (t : Fin cfg0.N) (k : Fin 6) (inb) : (fun d : Fin 2048 => weights m c t k.val inb (ix2 0 d)) = mix m c (order k) := by
  funext d
  rw [← blk3 m c t k d]
  refine View.ld_unit_apply_of _ _ _ _ _ _ fun a => ?_
  match a with
  | ⟨0, _⟩ => rfl
  | ⟨1, _⟩ => exact (zero_add _).symm

theorem after15 (t : Fin cfg0.N) : (dats m 0 c).after 15 t =
    k0_pay1 (k0_pay19 (k0_pay17 (rows m c t) (k0_pay10 (rows m c t) (rowsBefore m c t)) (weights m c t 5 inb_S6x2048_S1x2048_5_0) (iblk m c 6 t)) k0_pay18) (iblk m c 9 t) := by
  rw [after0_15]
  frame_out
  unfold rowsBefore shifted pieces carried rows
  rfl

theorem after14 (t : Fin cfg0.N) : (dats m 0 c).after 14 t =
    k0_pay21 (k0_pay16 (rows m c t) (k0_pay10 (rows m c t) (rowsBefore m c t)) (weights m c t 4 inb_S6x2048_S1x2048_4_0) (iblk m c 5 t)) (iblk m c 11 t) (iblk m c 8 t) := by
  rw [after0_14]
  frame_out
  unfold rowsBefore shifted pieces carried rows
  rfl

theorem after12 (t : Fin cfg0.N) (k : Fin 3) (r : Fin 256) (d : Fin 2048) : (dats m 0 c).after 12 t (ix3 k r d) =
    ![k0_pay11 (rows m c t) (rowsBefore m c t) (weights m c t 0 inb_S6x2048_S1x2048_0_0),
      k0_pay12 (rows m c t) (rowsBefore m c t) (weights m c t 1 inb_S6x2048_S1x2048_1_0),
      k0_pay14 (rows m c t) (k0_pay13 (rows m c t) (rowsBefore m c t) (weights m c t 2 inb_S6x2048_S1x2048_2_0))] k (ix3 0 r d) := by
  rw [after0_12]
  unfold outsAt0
  dsimp only
  rw [out_mixed]
  unfold rows rowsBefore weights
  rfl

theorem at_rows (t : Fin cfg0.N) (r : Fin 256) : at' (rows m c t) r = Rwkv.normed (row m c) (gain m c) (rowOf t r) := funext (rows_apply m c t r)
theorem at_before (t : Fin cfg0.N) (r : Fin 256) : at' (rowsBefore m c t) r = Rwkv.before (row m c) (gain m c) (rowOf t r) := funext (before_apply m c t r)

theorem finalGate : (dats m 0 c).arrAt 15 (cfgs 0).N = totalGate m c := by
  refine (dats m 0 c).arrAt_eq_of_covers 15 _ (by decide +kernel) fun t _ y => ?_
  blk_simp
  rw [after15]
  obtain ⟨r, C, rfl⟩ : ∃ (r : Fin 256) (C : Fin 2048), y = ix2 r C := ⟨y 0, y 1, eq_ix2 y⟩
  refine (gate_apply _ _ r C).trans ?_
  refine (Finset.sum_congr rfl fun e _ => congrArg₂ (· * ·) (gated_apply _ _ _ _ r e) (blk9 m c t e C)).trans ?_
  have hw : (fun d : Fin 2048 => weights m c t 5 inb_S6x2048_S1x2048_5_0 (ix2 0 d)) = mix m c (order 5) := weights_at m c t 5 inb_S6x2048_S1x2048_5_0
  rw [hw]
  simp only [at_rows, at_before, blk6]
  refine Eq.trans (b := totalGate m c (ix2 (rowOf t r) C)) rfl ?_
  generalize totalGate m c = G
  unfold rowOf
  blk_ext [iblk, idx t]

theorem finalRate : (dats m 0 c).arrAt 14 (cfgs 0).N = totalRate m c := by
  refine (dats m 0 c).arrAt_eq_of_covers 14 _ (by decide +kernel) fun t _ y => ?_
  blk_simp
  rw [after14]
  obtain ⟨r, C, rfl⟩ : ∃ (r : Fin 256) (C : Fin 2048), y = ix2 r C := ⟨y 0, y 1, eq_ix2 y⟩
  refine (rate_apply _ _ _ r C).trans ?_
  have hw : (fun d : Fin 2048 => weights m c t 4 inb_S6x2048_S1x2048_4_0 (ix2 0 d)) = mix m c (order 4) := weights_at m c t 4 inb_S6x2048_S1x2048_4_0
  have hs (e : Fin 128) : k0_pay16 (F := Ideal) (rows m c t) (k0_pay10 (rows m c t) (rowsBefore m c t)) (weights m c t 4 inb_S6x2048_S1x2048_4_0) (iblk m c 5 t) (ix2 r e)
      * iblk m c 8 t (ix2 e C) = if h : e.val < 96 then Rwkv.inner (Rwkv.normed (row m c) (gain m c) (rowOf t r)) (Rwkv.before (row m c) (gain m c) (rowOf t r)) (mix m c 4)
        (fun d => rateIn m c d ⟨e.val, h⟩) * rateOut m c ⟨e.val, h⟩ C else 0 := by
    refine (congrArg₂ (· * ·) (inner_apply _ _ _ _ r e) (blk8 m c t e C)).trans ?_
    rw [hw, at_rows, at_before]
    split_ifs with h
    · simp only [blk5, dif_pos h]
      rfl
    · exact mul_zero (M₀ := EReal) _
  refine Eq.trans (b := totalRate m c (ix2 (rowOf t r) C)) ?_ ?_
  · unfold totalRate Rwkv.rate
    refine congrArg Rwkv.sigm (congrArg₂ (· + ·) (blk11 m c t C) ?_)
    refine (Finset.sum_congr rfl fun e _ => hs e).trans ((Rwkv.sum_padded _ fun e h => dif_neg (by omega)).trans (Finset.sum_congr rfl fun e _ => dif_pos e.isLt))
  · generalize totalRate m c = G
    unfold rowOf
    blk_ext [iblk, idx t]

theorem finalMixed : (dats m 0 c).arrAt 12 (cfgs 0).N = totalMixed m c := by
  refine (dats m 0 c).arrAt_eq_of_covers 12 _ (by decide +kernel) fun t _ y => ?_
  blk_simp
  obtain ⟨k, r, d, rfl⟩ : ∃ (k : Fin 3) (r : Fin 256) (d : Fin 2048), y = ix3 k r d := ⟨y 0, y 1, y 2, eq_ix3 y⟩
  rw [after12]
  refine Eq.trans (b := totalMixed m c (ix3 k (rowOf t r) d)) ?_ ?_
  · unfold totalMixed
    have hw0 : (fun d : Fin 2048 => weights m c t 0 inb_S6x2048_S1x2048_0_0 (ix2 0 d)) = mix m c (order 0) := weights_at m c t 0 inb_S6x2048_S1x2048_0_0
    have hw1 : (fun d : Fin 2048 => weights m c t 1 inb_S6x2048_S1x2048_1_0 (ix2 0 d)) = mix m c (order 1) := weights_at m c t 1 inb_S6x2048_S1x2048_1_0
    have hw2 : (fun d : Fin 2048 => weights m c t 2 inb_S6x2048_S1x2048_2_0 (ix2 0 d)) = mix m c (order 2) := weights_at m c t 2 inb_S6x2048_S1x2048_2_0
    match k with
    | 0 => exact (first_apply _ _ _ r d).trans (by rw [hw0, at_rows, at_before]; rfl)
    | 1 => exact (second_apply _ _ _ r d).trans (by rw [hw1, at_rows, at_before]; rfl)
    | 2 => exact (third_apply _ _ _ r d).trans (by rw [hw2, at_rows, at_before]; rfl)
  · generalize totalMixed m c = G
    unfold rowOf
    blk_ext [iblk, idx t]

end Cert.Kernel7Ideal.Rwkv

end
-- ==== Proof.RwkvRef.lean ====
/- The inputs of the time mixing of the reference, at an index. -/
module

public import proofs.«01_k».proof.Proof.Gen.Reference7Ideal.Read
public import proofs.«01_k».proof.Proof.RwkvSpec
public import Idealize.ShloMosaic.Lib.Pointwise

@[expose] public section

set_option maxRecDepth 16384

noncomputable section

namespace Cert.Reference7Ideal.Rwkv

open Cert.Reference7Ideal Cert.Reference7Ideal.Gen Cert.Reference7Ideal.Read
open Idealize.ShloMosaic Idealize.ShloMosaic.TcCoe Idealize.SL.Sem

theorem zero_word : Ideal.ofBits .f32 0x00000000#32 = (0 : EReal) := by simp [Ideal.ofBits, Ideal.ieee]

variable (x0 : (⟨S8x2048x2048, .f32⟩ : BufTy).Contents (Elt Ideal)) (x1 : (⟨S2048, .f32⟩ : BufTy).Contents (Elt Ideal))
  (x2 : (⟨S6x2048, .f32⟩ : BufTy).Contents (Elt Ideal))

/-- The sum of a row's squares. -/
theorem squares (b : Fin 8) (s : Fin 2048) : val_main_v1 x0 (ix2 b s) = ∑ e : Fin 2048, x0 (ix3 b s e) * x0 (ix3 b s e) := by
  rw [val_main_v1_apply, val_main_cst_apply]
  refine (congrArg (· + _) zero_word).trans ((zero_add _).trans (Finset.sum_congr rfl fun e _ => ?_))
  rw [show idx_main_v1 (ix2 b s) e = ix3 b s e from funext fun a => Fin.ext (by match a with | ⟨0, _⟩ => rfl | ⟨1, _⟩ => rfl | ⟨2, _⟩ => rfl)]
  rfl

/-- Row `R` of all batches, and the gain. -/
def row (R : Fin 16384) : Fin 2048 → EReal := fun e => x0 (ix3 ⟨R.val / 2048, by omega⟩ ⟨R.val % 2048, by omega⟩ e)
def gain : Fin 2048 → EReal := fun e => x1 (ix1 e)

/-- Position `s` of batch `b`. -/
def at' (b : Fin 8) (s : Fin 2048) : Fin 16384 := ⟨2048 * b.val + s.val, by omega⟩

theorem row_at (b : Fin 8) (s : Fin 2048) : row x0 (at' b s) = fun e => x0 (ix3 b s e) := by
  unfold row at'
  funext e
  exact congrArg x0 (congrArg₂ (ix3 · · e) (Fin.ext (by show (2048 * b.val + s.val) / 2048 = b.val; omega)) (Fin.ext (by show (2048 * b.val + s.val) % 2048 = s.val; omega)))

/-- The normed row. -/
theorem normed_at (b : Fin 8) (s d : Fin 2048) : val_main_v12 x0 x1 (ix3 b s d) = Rwkv.normed (row x0) (gain x1) (at' b s) d := by
  unfold Rwkv.normed
  rw [row_at]
  unfold Mlp.normRow gain
  rw [← squares]
  unfold val_main_v12 val_main_v11 val_main_v10 val_main_v9 val_main_v8 val_main_v7 val_main_v6 val_main_v5 val_main_v4 val_main_v3 val_main_v2 val_main_cst_0 val_main_cst_1
  generalize val_main_v1 x0 = q
  pointwise

/-- The normed row before. -/
theorem before_at (b : Fin 8) (s d : Fin 2048) : val_main_v14 x0 x1 (ix3 b s d) = Rwkv.before (row x0) (gain x1) (at' b s) d := by
  have e : val_main_v14 x0 x1 (ix3 b s d) = if h : s.val = 0 then 0 else val_main_v12 x0 x1 (ix3 b ⟨s.val - 1, by omega⟩ d) := by
    unfold val_main_v14 val_main_v13
    generalize val_main_v12 x0 x1 = q
    pointwise
    by_cases h : s.val = 0
    · rw [dif_pos h, dif_neg (by omega)]
      unfold val_main_call0_v0 val_main_c
      simp [sitofp, constantI, FloatOps.sitofp]
    · rw [dif_neg h, dif_pos (by omega)]
  rw [e]
  unfold Rwkv.before
  by_cases h : s.val = 0
  · rw [dif_pos h, if_pos (show (at' b s).val % 2048 = 0 by unfold at'; dsimp only; omega)]
  · rw [dif_neg h, if_neg (show ¬(at' b s).val % 2048 = 0 by unfold at'; dsimp only; omega), normed_at]
    exact congrArg (fun R => Rwkv.normed (row x0) (gain x1) R d) (Fin.ext (by show 2048 * b.val + (s.val - 1) = 2048 * b.val + s.val - 1; omega))

/-! ## The mixtures -/

variable (b : Fin 8) (s d : Fin 2048)

/-- Weights `k` of the mixtures. -/
def mix (k : Fin 6) : Fin 2048 → EReal := fun d => x2 (ix2 k d)

/-- A mixture of row `R` with the row before. -/
def mixture (R : Fin 16384) (k : Fin 6) (d : Fin 2048) : EReal := Rwkv.mixed (Rwkv.normed (row x0) (gain x1) R) (Rwkv.before (row x0) (gain x1) R) (mix x2 k) d

theorem mixture_eq (k : Fin 6) : mixture x0 x1 x2 (at' b s) k d =
    val_main_v12 x0 x1 (ix3 b s d) + (val_main_v14 x0 x1 (ix3 b s d) - val_main_v12 x0 x1 (ix3 b s d)) * x2 (ix2 k d) := by
  rw [normed_at, before_at]
  rfl

theorem mix_r : val_main_v21 x0 x1 x2 (ix3 b s d) = mixture x0 x1 x2 (at' b s) 0 d := by
  rw [mixture_eq]
  unfold val_main_v21 val_main_v20 val_main_v19 val_main_v18 val_main_v17 val_main_v16 val_main_v15
  generalize val_main_v12 x0 x1 = q
  generalize val_main_v14 x0 x1 = p
  pointwise

theorem mix_k : val_main_v33 x0 x1 x2 (ix3 b s d) = mixture x0 x1 x2 (at' b s) 2 d := by
  rw [mixture_eq]
  unfold val_main_v33 val_main_v32 val_main_v31 val_main_v30 val_main_v29 val_main_v28 val_main_v15
  generalize val_main_v12 x0 x1 = q
  generalize val_main_v14 x0 x1 = p
  pointwise

theorem mix_v : val_main_v39 x0 x1 x2 (ix3 b s d) = mixture x0 x1 x2 (at' b s) 3 d := by
  rw [mixture_eq]
  unfold val_main_v39 val_main_v38 val_main_v37 val_main_v36 val_main_v35 val_main_v34 val_main_v15
  generalize val_main_v12 x0 x1 = q
  generalize val_main_v14 x0 x1 = p
  pointwise

theorem mix_a : val_main_v45 x0 x1 x2 (ix3 b s d) = mixture x0 x1 x2 (at' b s) 4 d := by
  rw [mixture_eq]
  unfold val_main_v45 val_main_v44 val_main_v43 val_main_v42 val_main_v41 val_main_v40 val_main_v15
  generalize val_main_v12 x0 x1 = q
  generalize val_main_v14 x0 x1 = p
  pointwise

theorem mix_g : val_main_v51 x0 x1 x2 (ix3 b s d) = mixture x0 x1 x2 (at' b s) 5 d := by
  rw [mixture_eq]
  unfold val_main_v51 val_main_v50 val_main_v49 val_main_v48 val_main_v47 val_main_v46 val_main_v15
  generalize val_main_v12 x0 x1 = q
  generalize val_main_v14 x0 x1 = p
  pointwise

/-! ## The low-rank products -/

variable (x6 : (⟨S2048, .f32⟩ : BufTy).Contents (Elt Ideal)) (x7 : (⟨S2048x96, .f32⟩ : BufTy).Contents (Elt Ideal))
  (x8 : (⟨S96x2048, .f32⟩ : BufTy).Contents (Elt Ideal)) (x9 : (⟨S2048x256, .f32⟩ : BufTy).Contents (Elt Ideal))
  (x10 : (⟨S256x2048, .f32⟩ : BufTy).Contents (Elt Ideal))

theorem inner_a (e : Fin 96) : val_main_v52 x0 x1 x2 x7 (ix3 b s e) =
    Rwkv.inner (Rwkv.normed (row x0) (gain x1) (at' b s)) (Rwkv.before (row x0) (gain x1) (at' b s)) (mix x2 4) fun d => x7 (ix2 d e) := by
  rw [val_main_v52_apply]
  refine Finset.sum_congr rfl fun d _ => ?_
  refine (congrArg₂ (· * ·) ?_ (congrArg _ (funext fun a => Fin.ext (by match a with | ⟨0, _⟩ => rfl | ⟨1, _⟩ => rfl)))).trans
    (congrArg (· * _) (mix_a x0 x1 x2 b s d))
  exact congrArg _ (funext fun a => Fin.ext (by match a with | ⟨0, _⟩ => rfl | ⟨1, _⟩ => rfl | ⟨2, _⟩ => rfl))

theorem inner_g (e : Fin 256) : val_main_v63 x0 x1 x2 x9 (ix3 b s e) =
    Rwkv.inner (Rwkv.normed (row x0) (gain x1) (at' b s)) (Rwkv.before (row x0) (gain x1) (at' b s)) (mix x2 5) fun d => x9 (ix2 d e) := by
  rw [val_main_v63_apply]
  refine Finset.sum_congr rfl fun d _ => ?_
  refine (congrArg₂ (· * ·) ?_ (congrArg _ (funext fun a => Fin.ext (by match a with | ⟨0, _⟩ => rfl | ⟨1, _⟩ => rfl)))).trans
    (congrArg (· * _) (mix_g x0 x1 x2 b s d))
  exact congrArg _ (funext fun a => Fin.ext (by match a with | ⟨0, _⟩ => rfl | ⟨1, _⟩ => rfl | ⟨2, _⟩ => rfl))

theorem product_a : val_main_v53 x0 x1 x2 x7 x8 (ix3 b s d) = ∑ e : Fin 96, val_main_v52 x0 x1 x2 x7 (ix3 b s e) * x8 (ix2 e d) := by
  rw [val_main_v53_apply]
  refine Finset.sum_congr rfl fun e _ => ?_
  exact congrArg₂ (· * ·) (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl)))

theorem product_g : val_main_v70 x0 x1 x2 x9 x10 (ix3 b s d) = ∑ e : Fin 256, val_main_v69 x0 x1 x2 x9 (ix3 b s e) * x10 (ix2 e d) := by
  rw [val_main_v70_apply]
  refine Finset.sum_congr rfl fun e _ => ?_
  exact congrArg₂ (· * ·) (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl)))

theorem gated (e : Fin 256) : val_main_v69 x0 x1 x2 x9 (ix3 b s e) = Rwkv.sigm (val_main_v63 x0 x1 x2 x9 (ix3 b s e)) := by
  unfold val_main_v69 val_main_v68 val_main_v67 val_main_v66 val_main_v65 val_main_v64 val_main_cst_4 val_main_cst_5 Rwkv.sigm Rwkv.one
  generalize val_main_v63 x0 x1 x2 x9 = q
  pointwise

theorem rated : val_main_v62 x0 x1 x2 x6 x7 x8 (ix3 b s d) = Rwkv.sigm (x6 (ix1 d) + val_main_v53 x0 x1 x2 x7 x8 (ix3 b s d)) := by
  unfold val_main_v62 val_main_v61 val_main_v60 val_main_v59 val_main_v58 val_main_v57 val_main_v56 val_main_v55 val_main_v54 val_main_cst_2 val_main_cst_3 Rwkv.sigm Rwkv.one
  generalize val_main_v53 x0 x1 x2 x7 x8 = q
  pointwise

/-! ## The results -/

variable (R : Fin 16384)

theorem at_row : at' ⟨R.val / 2048, by omega⟩ ⟨R.val % 2048, by omega⟩ = R := Fin.ext (by unfold at'; dsimp only; omega)

/-- An element of the mixed rows: `Rwkv.src k` is the place of row `k`'s weights among the six. -/
theorem result_mixed (k : Fin 3) : val_main_v80 x0 x1 x2 (ix3 k R d) =
    Rwkv.mixed (Rwkv.normed (row x0) (gain x1) R) (Rwkv.before (row x0) (gain x1) R) (mix x2 (Rwkv.src k)) d := by
  have h : val_main_v80 x0 x1 x2 (ix3 k R d) =
      ![val_main_v21 x0 x1 x2, val_main_v33 x0 x1 x2, val_main_v39 x0 x1 x2] k (ix3 ⟨R.val / 2048, by omega⟩ ⟨R.val % 2048, by omega⟩ d) := by
    unfold val_main_v80 val_main_v79 val_main_v78 val_main_v77 val_main_v76 val_main_v75 val_main_v74 val_main_v73 val_main_v72 val_main_v71
    generalize val_main_v21 x0 x1 x2 = p
    generalize val_main_v33 x0 x1 x2 = q
    generalize val_main_v39 x0 x1 x2 = r
    fin_cases k <;> pointwise
  rw [h]
  fin_cases k
  · exact (mix_r x0 x1 x2 _ _ d).trans (by rw [at_row]; rfl)
  · exact (mix_k x0 x1 x2 _ _ d).trans (by rw [at_row]; rfl)
  · exact (mix_v x0 x1 x2 _ _ d).trans (by rw [at_row]; rfl)

/-- An element of the learning rates. -/
theorem result_rate : val_main_v82 x0 x1 x2 x6 x7 x8 (ix2 R d) =
    Rwkv.rate (Rwkv.normed (row x0) (gain x1) R) (Rwkv.before (row x0) (gain x1) R) (mix x2 4) (fun d e => x7 (ix2 d e)) (fun e => x8 (ix2 e d)) (x6 (ix1 d)) := by
  have h : val_main_v82 x0 x1 x2 x6 x7 x8 (ix2 R d) = val_main_v62 x0 x1 x2 x6 x7 x8 (ix3 ⟨R.val / 2048, by omega⟩ ⟨R.val % 2048, by omega⟩ d) := by
    unfold val_main_v82 val_main_v81
    generalize val_main_v62 x0 x1 x2 x6 x7 x8 = q
    pointwise
  rw [h, rated, product_a]
  simp only [inner_a, at_row]
  rfl

/-- An element of the gate. -/
theorem result_gate : val_main_v84 x0 x1 x2 x9 x10 (ix2 R d) =
    Rwkv.gate (Rwkv.normed (row x0) (gain x1) R) (Rwkv.before (row x0) (gain x1) R) (mix x2 5) (fun d e => x9 (ix2 d e)) (fun e => x10 (ix2 e d)) := by
  have h : val_main_v84 x0 x1 x2 x9 x10 (ix2 R d) = val_main_v70 x0 x1 x2 x9 x10 (ix3 ⟨R.val / 2048, by omega⟩ ⟨R.val % 2048, by omega⟩ d) := by
    unfold val_main_v84 val_main_v83
    generalize val_main_v70 x0 x1 x2 x9 x10 = q
    pointwise
  rw [h, product_g]
  simp only [gated, inner_g, at_row]
  rfl

end Cert.Reference7Ideal.Rwkv

end
-- ==== Proof.lean ====
/- The certificate: the frames, and the equation of the kernel's array and the reference's at each index. -/
module

public import proofs.«01_k».proof.Defs
public import proofs.«01_k».proof.Proof.AttnHost
public import proofs.«01_k».proof.Proof.AttnRefOut
public import proofs.«01_k».proof.Proof.AttnEq
public import proofs.«01_k».proof.Proof.MlpHost
public import proofs.«01_k».proof.Proof.MlpRef
public import proofs.«01_k».proof.Proof.Proj3
public import proofs.«01_k».proof.Proof.Proj4
public import proofs.«01_k».proof.Proof.Proj5
public import proofs.«01_k».proof.Proof.NormHost
public import proofs.«01_k».proof.Proof.NormRef
public import proofs.«01_k».proof.Proof.RwkvHost
public import proofs.«01_k».proof.Proof.RwkvRef
public import proofs.«01_k».proof.Proof.Gen.Kernel.Frame
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Launch
public import proofs.«01_k».proof.Proof.Gen.Kernel6Ideal.Launch
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import Idealize.ShloMosaic.Adequacy
public import Idealize.ShloMosaic.Init
public import Idealize.ShloMosaic.Lib.Quiescent

@[expose] public section

noncomputable section

namespace Cert.Proof

open Idealize.ShloMosaic Idealize.SL.Sem

/-- The shapes of the precondition's operations. -/
theorem preFacts : Cert.Pre_gains_finite_sinks_below_inf.Facts where
  concatenates_S64_S64_S16_S144_d0 := by decide
  bcast_S_S144 := by decide

instance : Cert.Pre_gains_finite_sinks_below_inf.Facts := preFacts

theorem inf_word : Ideal.ofBits .f32 0x7F800000#32 = (⊤ : EReal) := by simp [Ideal.ofBits, Ideal.ieee]

theorem lt_of_word {x y : EReal} (h : BitVec.ofBool (decide (x < y)) = 1#1) : x < y := by
  by_contra hn
  rw [decide_eq_false hn] at h
  exact absurd h (by decide)

theorem real_of_abs {x : EReal} (h : FloatOps.absf (F := Ideal) (φ := .f32) x < ⊤) : Attn.IsReal x := by
  have hx : max x (-x) < ⊤ := h
  refine Attn.isReal_of_ne (fun e => ?_) (fun e => ?_)
  · rw [e] at hx; exact absurd (max_lt_iff.mp hx).2 (by simp)
  · rw [e] at hx; exact absurd (max_lt_iff.mp hx).1 (lt_irrefl _)

section

variable (x0 : FVec Ideal ⟨3, ![8, 2048, 4112]⟩ .f32) (x1 x2 : FVec Ideal ⟨1, ![64]⟩ .f32) (x3 : FVec Ideal ⟨1, ![16]⟩ .f32)
  (h : Cert.Pre_gains_finite_sinks_below_inf.fn (F := Ideal) x0 x1 x2 x3 = fun _ => 1#1)

include h

theorem query_gain_real (d : Fin 64) : Attn.IsReal (x1 (ix1 d)) := by
  have e := congrFun h (ix1 ⟨d.val, by omega⟩)
  unfold Cert.Pre_gains_finite_sinks_below_inf.fn at e
  revert e
  pointwise
  intro e
  have e := lt_of_word e
  rw [inf_word] at e
  exact real_of_abs e

theorem key_gain_real (d : Fin 64) : Attn.IsReal (x2 (ix1 d)) := by
  have e := congrFun h (ix1 ⟨d.val + 64, by omega⟩)
  unfold Cert.Pre_gains_finite_sinks_below_inf.fn at e
  revert e
  pointwise
  intro e
  have e := lt_of_word e
  rw [inf_word] at e
  rw [dif_neg (by omega), dif_pos (by omega), show (⟨d.val + 64 - 64, by omega⟩ : Fin 64) = d from Fin.ext (Nat.add_sub_cancel d.val 64)] at e
  exact real_of_abs e

theorem sink_below (H : Fin 16) : x3 (ix1 H) ≠ ⊤ := by
  have e := congrFun h (ix1 ⟨H.val + 128, by omega⟩)
  unfold Cert.Pre_gains_finite_sinks_below_inf.fn at e
  revert e
  pointwise
  intro e
  have e := lt_of_word e
  rw [inf_word] at e
  rw [dif_neg (by omega), dif_neg (by omega), show (⟨H.val + 128 - 64 - 64, by omega⟩ : Fin 16) = H from Fin.ext (by show H.val + 128 - 64 - 64 = H.val; omega)] at e
  exact e.ne

end

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_gains_finite_sinks_below_inf := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Read.val_main_v152_eq _).trans ?_
  obtain ⟨h0, h1, h2, h3⟩ := hagree c
  have e0 : Cert.ReferenceIdeal.Attn.proj (StableHlo.launchContents m' c (Proc.tc.devRef Cert.ReferenceIdeal.main_arg0)) = Cert.KernelIdeal.Attn.proj m c :=
    funext fun b => funext fun s => funext fun l => congrFun h0 (ix3 b s l)
  have e1 : Cert.ReferenceIdeal.Attn.gain (StableHlo.launchContents m' c (Proc.tc.devRef Cert.ReferenceIdeal.main_arg1)) = Cert.KernelIdeal.Attn.qGain m c :=
    funext fun e => congrFun h1 (ix1 e)
  have e2 : Cert.ReferenceIdeal.Attn.gain (StableHlo.launchContents m' c (Proc.tc.devRef Cert.ReferenceIdeal.main_arg2)) = Cert.KernelIdeal.Attn.kGain m c :=
    funext fun e => congrFun h2 (ix1 e)
  have e3 : Cert.ReferenceIdeal.Attn.sinks (StableHlo.launchContents m' c (Proc.tc.devRef Cert.ReferenceIdeal.main_arg3)) = Cert.KernelIdeal.Attn.sinks m c :=
    funext fun H => congrFun h3 (ix1 H)
  have hq : ∀ d, Attn.IsReal (Cert.KernelIdeal.Attn.qGain m c d) := query_gain_real _ _ _ _ (hpre c)
  have hk : ∀ d, Attn.IsReal (Cert.KernelIdeal.Attn.kGain m c d) := key_gain_real _ _ _ _ (hpre c)
  have hs : ∀ H, Cert.KernelIdeal.Attn.sinks m c H ≠ ⊤ := sink_below _ _ _ _ (hpre c)
  funext i
  obtain ⟨R, L, rfl⟩ : ∃ (R : Fin 16384) (L : Fin 1024), i = ix2 R L := ⟨i 0, i 1, eq_ix2 i⟩
  have hR : R.val < 16384 := R.isLt
  have hL : L.val < 1024 := L.isLt
  have r : R.val = 2048 * (R.val / 2048) + 128 * (R.val / 128 % 16) + R.val % 128 := by omega
  have l : L.val = 64 * (L.val / 64) + L.val % 64 := by omega
  have kern := Cert.KernelIdeal.Attn.result m c R L ⟨R.val / 2048, by omega⟩ ⟨R.val / 128 % 16, by omega⟩ ⟨R.val % 128, by omega⟩ ⟨L.val / 64, by omega⟩ ⟨L.val % 64, by omega⟩ r l
  have host := Cert.ReferenceIdeal.Attn.result (StableHlo.launchContents m' c (Proc.tc.devRef Cert.ReferenceIdeal.main_arg0))
    (StableHlo.launchContents m' c (Proc.tc.devRef Cert.ReferenceIdeal.main_arg1)) (StableHlo.launchContents m' c (Proc.tc.devRef Cert.ReferenceIdeal.main_arg2))
    (StableHlo.launchContents m' c (Proc.tc.devRef Cert.ReferenceIdeal.main_arg3)) R L ⟨R.val / 2048, by omega⟩ ⟨R.val / 128 % 16, by omega⟩ ⟨R.val % 128, by omega⟩
    ⟨L.val / 64, by omega⟩ ⟨L.val % 64, by omega⟩ r l
  rw [e0, e1, e2, e3] at host
  refine host.trans (Eq.trans ?_ kern.symm)
  exact (Attn.rowOut_eq _ _ _ (fun k => Attn.seen_real _ _ _ hq hk _ _ _ _ k) _ (Attn.self_real _ _ _ hq hk _ _ _ _) (hs _)).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  refine (Cert.Reference2Ideal.Read.val_main_v24_eq _ _ _ _).trans ?_
  obtain ⟨h0, h1, h2, h3⟩ := hagree c
  funext i
  obtain ⟨R, C, rfl⟩ : ∃ (R : Fin 16384) (C : Fin 2048), i = ix2 R C := ⟨i 0, i 1, eq_ix2 i⟩
  refine (Cert.Reference2Ideal.Mlp.result _ _ _ _ R C).trans (Eq.trans ?_ (Cert.Kernel2Ideal.Mlp.result m c R C).symm)
  have e0 : (fun d => m' ((c.tc : Thread Cert.Reference2Ideal.nD Cert.Reference2Ideal.τ).loc Cert.Reference2Ideal.main_arg0) (ix3 ⟨R.val / 2048, by omega⟩ ⟨R.val % 2048, by omega⟩ d)) = Cert.Kernel2Ideal.Mlp.row m c R :=
    funext fun d => congrFun h0 _
  have e1 : (fun d => m' ((c.tc : Thread Cert.Reference2Ideal.nD Cert.Reference2Ideal.τ).loc Cert.Reference2Ideal.main_arg1) (ix2 1 d)) = Cert.Kernel2Ideal.Mlp.gain m c :=
    funext fun d => congrFun h1 _
  have e2 : (fun f d => m' ((c.tc : Thread Cert.Reference2Ideal.nD Cert.Reference2Ideal.τ).loc Cert.Reference2Ideal.main_arg2) (ix3 1 d f)) = Cert.Kernel2Ideal.Mlp.up m c :=
    funext fun f => funext fun d => congrFun h2 _
  have e3 : (fun f => m' ((c.tc : Thread Cert.Reference2Ideal.nD Cert.Reference2Ideal.τ).loc Cert.Reference2Ideal.main_arg3) (ix3 1 f C)) = Cert.Kernel2Ideal.Mlp.down m c C :=
    funext fun f => congrFun h3 _
  rw [← e0, ← e1, ← e2, ← e3]

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  refine (Cert.Reference3Ideal.Read.val_main_v10_eq _ _ _ _ _ _).trans ?_
  obtain ⟨h0, h1, h2, h3, h4, h5⟩ := hagree c
  refine Eq.trans ?_ (Cert.Kernel3Ideal.Proj.final m c).symm
  funext i
  obtain ⟨k, R, l, rfl⟩ : ∃ (k : Fin 3) (R : Fin 16384) (l : Fin 2048), i = ix3 k R l := ⟨i 0, i 1, i 2, eq_ix3 i⟩
  refine (Cert.Reference3Ideal.Proj.result _ _ _ _ _ _ k R l).trans (Eq.trans ?_ (Cert.Kernel3Ideal.Proj.result m c k R l).symm)
  match k with
  | 0 => exact Finset.sum_congr rfl fun e _ => congrArg₂ (· * ·) (congrFun h0 _) (congrFun h3 _)
  | 1 => exact Finset.sum_congr rfl fun e _ => congrArg₂ (· * ·) (congrFun h1 _) (congrFun h4 _)
  | 2 => exact Finset.sum_congr rfl fun e _ => congrArg₂ (· * ·) (congrFun h2 _) (congrFun h5 _)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  refine (Cert.Reference4Ideal.Read.val_main_v3_eq _ _ _ _).trans ?_
  obtain ⟨h0, h1, h2, h3⟩ := hagree c
  funext i
  obtain ⟨R, l, rfl⟩ : ∃ (R : Fin 16384) (l : Fin 2048), i = ix2 R l := ⟨i 0, i 1, eq_ix2 i⟩
  refine (Cert.Reference4Ideal.Proj.result _ _ _ _ R l).trans (Eq.trans ?_ (Cert.Kernel4Ideal.Proj.result m c R l).symm)
  exact congrArg₂ (· + ·) (congrFun h0 _) (congrArg₂ (· + ·)
    (Finset.sum_congr rfl fun e _ => congrArg₂ (· * ·) (congrFun h1 _) (congrFun h3 _))
    (Finset.sum_congr rfl fun e _ => congrArg₂ (· * ·) (congrFun h2 _) (congrFun h3 _)))

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  refine (Cert.Reference5Ideal.Read.val_main_v2_eq _ _ _).trans ?_
  obtain ⟨h0, h1, h2⟩ := hagree c
  funext i
  obtain ⟨R, l, rfl⟩ : ∃ (R : Fin 16384) (l : Fin 2048), i = ix2 R l := ⟨i 0, i 1, eq_ix2 i⟩
  refine (Cert.Reference5Ideal.Proj.result _ _ _ R l).trans (Eq.trans ?_ (Cert.Kernel5Ideal.Proj.result m c R l).symm)
  exact congrArg₂ (· + ·) (congrFun h0 _)
    (Finset.sum_congr rfl fun e _ => congrArg₂ (· * ·) (congrFun h1 _) (congrFun h2 _))

theorem frame6 {F : FTy → Type} [FloatOps F] (m : (ℓ : Loc Cert.Kernel6Ideal.nD Cert.Kernel6Ideal.τ Cert.Kernel6Ideal.sig) → Buf (Elt F) ℓ) (ρ : Dev Cert.Kernel6Ideal.nD → PrngReg) :
    θ_run Cert.Kernel6Ideal.defs (onTc Cert.Kernel6Ideal.main) ⟨m, fun _ => 0, ρ⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0) :=
  (θ_run Cert.Kernel6Ideal.defs _ _).mono (fun _ h => ⟨fun c => (h.1 c).2.2, h.2⟩) (Cert.Kernel6Ideal.Norm.run m ρ)

/-- The kernel and its idealization have the same text, so the same bodies. -/
theorem bodies6 : Cert.Kernel6.defs₀ (F := Bits) = Cert.Kernel6Ideal.defs₀ (F := Bits) := by
  unfold Cert.Kernel6.defs₀ Cert.Kernel6Ideal.defs₀
  refine congrArg Defs.onTc ?_
  funext l
  match l with
  | 0 => funext x; rfl
  | ⟨_ + 1, h⟩ => exact absurd h (Nat.not_lt.2 (Nat.le_add_left _ _))

theorem defs6 : Cert.Kernel6.defs (F := Bits) = Cert.Kernel6Ideal.defs (F := Bits) :=
  congrArg (Pipeline.defs (Cert.Kernel6.pcfgs (F := Bits))) bodies6

/-- The run of the one is the run of the other. -/
theorem frame_kernel6 : quiescent_Kernel6 := fun m ρ _ => by
  rw [defs6]
  exact frame6 (F := Bits) m ρ

theorem quiescent_Reference6Ideal : quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem algebraic6 : algebraic_Kernel6Ideal_Reference6Ideal := by
  intro m ρ m' ρ' _ hagree
  refine ⟨_, _, (θ_run Cert.Kernel6Ideal.defs _ _).mono (fun _ h c => h.1 c) (Cert.Kernel6Ideal.Norm.run (F := Ideal) m ρ), ?_⟩
  refine (θ_run Cert.Reference6Ideal.defs _ _).mono (fun _ h c => ⟨?_, ?_, (h c).2.2⟩) (Cert.Reference6Ideal.Value.run (F := Ideal) m' ρ')
  all_goals
    obtain ⟨h0, h1, h2⟩ := hagree c
    have e0 (R : Fin 16384) : (fun d => m' ((c.tc : Thread Cert.Reference6Ideal.nD Cert.Reference6Ideal.τ).loc Cert.Reference6Ideal.main_arg0) (ix3 ⟨R.val / 2048, by omega⟩ ⟨R.val % 2048, by omega⟩ d)) = Cert.Kernel6Ideal.Norm.row m c R :=
      funext fun d => congrFun h0 _
    have e1 : (fun d => m' ((c.tc : Thread Cert.Reference6Ideal.nD Cert.Reference6Ideal.τ).loc Cert.Reference6Ideal.main_arg1) (ix1 d)) = Cert.Kernel6Ideal.Norm.gain m c :=
      funext fun d => congrFun h1 _
    have e2 : (fun d l => m' ((c.tc : Thread Cert.Reference6Ideal.nD Cert.Reference6Ideal.τ).loc Cert.Reference6Ideal.main_arg2) (ix2 d l)) = Cert.Kernel6Ideal.Norm.weights m c :=
      funext fun d => funext fun l => congrFun h2 _
  · rw [(h c).1]
    refine (Cert.Reference6Ideal.Read.val_main_v24_eq m' c).trans ?_
    funext i
    obtain ⟨R, C, rfl⟩ : ∃ (R : Fin 16384) (C : Fin 4096), i = ix2 R C := ⟨i 0, i 1, eq_ix2 i⟩
    refine (Cert.Reference6Ideal.Norm.result _ _ _ R C).trans (Eq.trans ?_ (Cert.Kernel6Ideal.Norm.result m c R C).symm)
    rw [← e0, ← e1, ← e2]
  · rw [(h c).2.1]
    refine (Cert.Reference6Ideal.Read.val_main_v27_eq _ _ _).trans ?_
    funext i
    obtain ⟨R, C, rfl⟩ : ∃ (R : Fin 16384) (C : Fin 128), i = ix2 R C := ⟨i 0, i 1, eq_ix2 i⟩
    refine (Cert.Reference6Ideal.Norm.result_side _ _ _ R C).trans (Eq.trans ?_ (Cert.Kernel6Ideal.Norm.result_side m c R C).symm)
    rw [← e0, ← e1, ← e2]

theorem quiescent_Reference7Ideal : quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem algebraic7 : algebraic_Kernel7Ideal_Reference7Ideal := by
  intro m ρ m' ρ' _ hagree
  refine ⟨_, _, _, (θ_run Cert.Kernel7Ideal.defs _ _).mono (fun _ h c => ⟨(h c).1, (h c).2.2⟩) (Cert.Kernel7Ideal.Value.run_blocks (F := Ideal) m ρ), ?_⟩
  refine (θ_run Cert.Reference7Ideal.defs _ _).mono (fun _ h c => ⟨?_, ?_, ?_, (h c).2.2.2⟩) (Cert.Reference7Ideal.Value.run (F := Ideal) m' ρ')
  all_goals
    obtain ⟨h0, h1, h2, -, -, -, h6, h7, h8, h9, h10⟩ := hagree c
    have e0 : Cert.Reference7Ideal.Rwkv.row (m' ((c.tc : Thread Cert.Reference7Ideal.nD Cert.Reference7Ideal.τ).loc Cert.Reference7Ideal.main_arg0)) = Cert.Kernel7Ideal.Rwkv.row m c :=
      funext fun R => funext fun d => congrFun h0 _
    have e1 : Cert.Reference7Ideal.Rwkv.gain (m' ((c.tc : Thread Cert.Reference7Ideal.nD Cert.Reference7Ideal.τ).loc Cert.Reference7Ideal.main_arg1)) = Cert.Kernel7Ideal.Rwkv.gain m c :=
      funext fun d => congrFun h1 _
    have e2 (k : Fin 6) : Cert.Reference7Ideal.Rwkv.mix (m' ((c.tc : Thread Cert.Reference7Ideal.nD Cert.Reference7Ideal.τ).loc Cert.Reference7Ideal.main_arg2)) k = Cert.Kernel7Ideal.Rwkv.mix m c k :=
      funext fun d => congrFun h2 _
  · rw [(h c).1]
    refine (Cert.Reference7Ideal.Read.val_main_v80_eq m' c).trans ?_
    funext i
    obtain ⟨k, R, d, rfl⟩ : ∃ (k : Fin 3) (R : Fin 16384) (d : Fin 2048), i = ix3 k R d := ⟨i 0, i 1, i 2, eq_ix3 i⟩
    refine (Cert.Reference7Ideal.Rwkv.result_mixed _ _ _ _ _ k).trans (Eq.trans ?_ (congrFun (Cert.Kernel7Ideal.Rwkv.finalMixed m c) _).symm)
    rw [e0, e1, e2]
    rfl
  · rw [(h c).2.1]
    refine (Cert.Reference7Ideal.Read.val_main_v82_eq _ _ _ _ _ _).trans ?_
    funext i
    obtain ⟨R, d, rfl⟩ : ∃ (R : Fin 16384) (d : Fin 2048), i = ix2 R d := ⟨i 0, i 1, eq_ix2 i⟩
    refine (Cert.Reference7Ideal.Rwkv.result_rate _ _ _ _ _ _ _ _).trans (Eq.trans ?_ (congrFun (Cert.Kernel7Ideal.Rwkv.finalRate m c) _).symm)
    rw [e0, e1, e2, h6, h7, h8]
    rfl
  · rw [(h c).2.2.1]
    refine (Cert.Reference7Ideal.Read.val_main_v84_eq _ _ _ _ _).trans ?_
    funext i
    obtain ⟨R, d, rfl⟩ : ∃ (R : Fin 16384) (d : Fin 2048), i = ix2 R d := ⟨i 0, i 1, eq_ix2 i⟩
    refine (Cert.Reference7Ideal.Rwkv.result_gate _ _ _ _ _ _ _).trans (Eq.trans ?_ (congrFun (Cert.Kernel7Ideal.Rwkv.finalGate m c) _).symm)
    rw [e0, e1, e2, h9, h10]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  preFacts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  frame_kernel6, fun m ρ _ => frame6 m ρ, quiescent_Reference6Ideal,
  fun m ρ _ => Cert.Kernel7.Gen.frame m ρ, fun m ρ _ => Cert.Kernel7Ideal.Gen.frame m ρ, quiescent_Reference7Ideal,
  (trivial : preserves_Kernel_KernelIdeal), algebraic,
  (trivial : preserves_Kernel2_Kernel2Ideal), algebraic2,
  (trivial : preserves_Kernel3_Kernel3Ideal), algebraic3,
  (trivial : preserves_Kernel4_Kernel4Ideal), algebraic4,
  (trivial : preserves_Kernel5_Kernel5Ideal), algebraic5,
  (trivial : preserves_Kernel6_Kernel6Ideal), algebraic6,
  (trivial : preserves_Kernel7_Kernel7Ideal), algebraic7⟩

end Cert.Proof

end
